-- ==== Defs.lean ====
def Pre_Kernel [hPre_in_vocabulary : Cert.Pre_in_vocabulary.Facts] (m : (ℓ : Loc Cert.Kernel.nD Cert.Kernel.τ Cert.Kernel.sig) → Buf (Elt Bits) ℓ) : Prop :=
  ∀ c : Dev Cert.Kernel.nD,
    (Cert.Pre_in_vocabulary.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_vocabulary : Cert.Pre_in_vocabulary.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocabulary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocabulary [hPre_in_vocabulary : Cert.Pre_in_vocabulary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocabulary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_vocabulary : Cert.Pre_in_vocabulary.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_in_vocabulary [hReferenceIdeal : Cert.ReferenceIdeal.Facts] [hPre_in_vocabulary : Cert.Pre_in_vocabulary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocabulary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocabulary : Cert.Pre_in_vocabulary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_vocabulary : Cert.Pre_in_vocabulary.Facts),
    quiescent_Kernel (hKernel := hKernel) (hPre_in_vocabulary := hPre_in_vocabulary)
    ∧ quiescent_KernelIdeal (hKernelIdeal := hKernelIdeal) (hPre_in_vocabulary := hPre_in_vocabulary)
    ∧ quiescent_ReferenceIdeal (hReferenceIdeal := hReferenceIdeal)
    ∧ quiescent_ReferenceIdeal_pre_in_vocabulary (hReferenceIdeal := hReferenceIdeal) (hPre_in_vocabulary := hPre_in_vocabulary)
    ∧ preserves_Kernel_KernelIdeal
    ∧ algebraic_KernelIdeal_ReferenceIdeal (hKernelIdeal := hKernelIdeal) (hReferenceIdeal := hReferenceIdeal) (hPre_in_vocabulary := hPre_in_vocabulary)
-- ==== Pre_in_vocabulary.lean ====
abbrev S1024x128 : Shape := ⟨2, ![1024, 128]⟩
abbrev S1024x20 : Shape := ⟨2, ![1024, 20]⟩
abbrev S1000x128 : Shape := ⟨2, ![1000, 128]⟩
abbrev S1024x256 : Shape := ⟨2, ![1024, 256]⟩
abbrev S1024 : Shape := ⟨1, ![1024]⟩
abbrev S1000x256 : Shape := ⟨2, ![1000, 256]⟩
abbrev S1000 : Shape := ⟨1, ![1000]⟩
abbrev S_ : Shape := ⟨0, ![]⟩

class Facts : Prop where
  bcast_S_S1024x20 : S_.BroadcastsInDim S1024x20 (![] : Fin 0 → Fin S1024x20.rank)

variable [Facts]

def fn {F : FTy → Type} [FloatOps F] (main_arg0 : FVec F S1024x128 .f32) (main_arg1 : IVec S1024x20 32) (main_arg2 : FVec F S1000x128 .f32) (main_arg3 : FVec F S1024x128 .f32) (main_arg4 : FVec F S1024x256 .f32) (main_arg5 : FVec F S1024 .f32) (main_arg6 : FVec F S1024 .f32) (main_arg7 : FVec F S1000x256 .f32) (main_arg8 : FVec F S1000 .f32) : IVec S1024x20 1 :=
  let main_c : IVec S_ 32 := constantI S_ 32 0#32
  let main_v0 : IVec S1024x20 32 := broadcastInDim S1024x20 ![] bcast_S_S1024x20 main_c
  let main_v1 : IVec S1024x20 1 := cmpi .sge main_arg1 main_v0
  let main_c_0 : IVec S_ 32 := constantI S_ 32 1000#32
  let main_v2 : IVec S1024x20 32 := broadcastInDim S1024x20 ![] bcast_S_S1024x20 main_c_0
  let main_v3 : IVec S1024x20 1 := cmpi .slt main_arg1 main_v2
  let main_v4 : IVec S1024x20 1 := andi main_v1 main_v3
  main_v4
-- ==== Kernel.lean ====
abbrev S1024x128 : Shape := ⟨2, ![1024, 128]⟩
abbrev S1024x20 : Shape := ⟨2, ![1024, 20]⟩
abbrev S1000x128 : Shape := ⟨2, ![1000, 128]⟩
abbrev S1024x256 : Shape := ⟨2, ![1024, 256]⟩
abbrev S1024 : Shape := ⟨1, ![1024]⟩
abbrev S1000x256 : Shape := ⟨2, ![1000, 256]⟩
abbrev S1000 : Shape := ⟨1, ![1000]⟩
abbrev S1024x19 : Shape := ⟨2, ![1024, 19]⟩
abbrev S19x1024 : Shape := ⟨2, ![19, 1024]⟩
abbrev S19456 : Shape := ⟨1, ![19456]⟩
abbrev S19456x128 : Shape := ⟨2, ![19456, 128]⟩
abbrev S608 : Shape := ⟨1, ![608]⟩
abbrev S608x128 : Shape := ⟨2, ![608, 128]⟩
abbrev S_ : Shape := ⟨0, ![]⟩
abbrev S19x1024x128 : Shape := ⟨3, ![19, 1024, 128]⟩
abbrev S1024x1 : Shape := ⟨2, ![1024, 1]⟩
abbrev S1000x1 : Shape := ⟨2, ![1000, 1]⟩
abbrev S20x1000x1024 : Shape := ⟨3, ![20, 1000, 1024]⟩
abbrev S1x1024x128 : Shape := ⟨3, ![1, 1024, 128]⟩
abbrev S1x1000x1024 : Shape := ⟨3, ![1, 1000, 1024]⟩
abbrev S256x1024 : Shape := ⟨2, ![256, 1024]⟩
abbrev S128x1024 : Shape := ⟨2, ![128, 1024]⟩
abbrev S1024x1024 : Shape := ⟨2, ![1024, 1024]⟩
abbrev S1000x1024 : Shape := ⟨2, ![1000, 1024]⟩
abbrev S1024x20x1000 : Shape := ⟨3, ![1024, 20, 1000]⟩

abbrev nBuf : Table → Nat
  | .hbm => 19
  | .local .tc .vmem => 12
  | .local .scVector .vmem => 2
  | _ => 0

abbrev bufTy : (tb : Table) → Fin (nBuf tb) → BufTy
  | .hbm, ⟨0, _⟩ => ⟨S1024x128, .f32⟩
  | .hbm, ⟨1, _⟩ => ⟨S1024x20, .i32⟩
  | .hbm, ⟨2, _⟩ => ⟨S1000x128, .f32⟩
  | .hbm, ⟨3, _⟩ => ⟨S1024x128, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S1000x256, .f32⟩
  | .hbm, ⟨8, _⟩ => ⟨S1000, .f32⟩
  | .hbm, ⟨9, _⟩ => ⟨S1024x19, .i32⟩
  | .hbm, ⟨10, _⟩ => ⟨S19x1024, .i32⟩
  | .hbm, ⟨11, _⟩ => ⟨S19456, .i32⟩
  | .hbm, ⟨12, _⟩ => ⟨S19456x128, .f32⟩
  | .hbm, ⟨13, _⟩ => ⟨S19x1024x128, .f32⟩
  | .hbm, ⟨14, _⟩ => ⟨S1024, .f32⟩
  | .hbm, ⟨15, _⟩ => ⟨S1024x1, .f32⟩
  | .hbm, ⟨16, _⟩ => ⟨S1000x1, .f32⟩
  | .hbm, ⟨17, _⟩ => ⟨S20x1000x1024, .f32⟩
  | .hbm, ⟨18, _⟩ => ⟨S1024x20x1000, .f32⟩
  | .local .tc .vmem, ⟨0, _⟩ => ⟨S1024x128, .f32⟩
  | .local .tc .vmem, ⟨1, _⟩ => ⟨S1x1024x128, .f32⟩
  | .local .tc .vmem, ⟨2, _⟩ => ⟨S1x1024x128, .f32⟩
  | .local .tc .vmem, ⟨3, _⟩ => ⟨S1024x128, .f32⟩
  | .local .tc .vmem, ⟨4, _⟩ => ⟨S1024x256, .f32⟩
  | .local .tc .vmem, ⟨5, _⟩ => ⟨S1024x1, .f32⟩
  | .local .tc .vmem, ⟨6, _⟩ => ⟨S1000x256, .f32⟩
  | .local .tc .vmem, ⟨7, _⟩ => ⟨S1000x1, .f32⟩
  | .local .tc .vmem, ⟨8, _⟩ => ⟨S1x1000x1024, .f32⟩
  | .local .tc .vmem, ⟨9, _⟩ => ⟨S1x1000x1024, .f32⟩
  | .local .tc .vmem, ⟨10, _⟩ => ⟨S256x1024, .f32⟩
  | .local .tc .vmem, ⟨11, _⟩ => ⟨S256x1024, .f32⟩
  | .local .scVector .vmem, ⟨0, _⟩ => ⟨S608, .i32⟩
  | .local .scVector .vmem, ⟨1, _⟩ => ⟨S608x128, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v2_scv : Ref sig .scVector := ⟨.hbm, 11, rfl⟩
abbrev main_arg2_scv : Ref sig .scVector := ⟨.hbm, 2, rfl⟩
abbrev main_v3_scv : Ref sig .scVector := ⟨.hbm, 12, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc1_scratch0 : Ref sig .tc := ⟨.vmem, 10, rfl⟩
abbrev cc1_scratch1 : Ref sig .tc := ⟨.vmem, 11, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem7_1 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c608_i32 : BitVec 32 := 608#32
  let v2 : BitVec 32 := Scalar.muli v1 c608_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c608_i32 : BitVec 32 := 608#32
  let v2 : BitVec 32 := Scalar.muli v1 c608_i32
  let c0_i32_3_r1 : BitVec 32 := 0#32
  ![v2.toNat, 0]
abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1000x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1000x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x1000x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x128 : Shape := ⟨2, ![1024, 128]⟩
abbrev S1024x20 : Shape := ⟨2, ![1024, 20]⟩
abbrev S1000x128 : Shape := ⟨2, ![1000, 128]⟩
abbrev S1024x256 : Shape := ⟨2, ![1024, 256]⟩
abbrev S1024 : Shape := ⟨1, ![1024]⟩
abbrev S1000x256 : Shape := ⟨2, ![1000, 256]⟩
abbrev S1000 : Shape := ⟨1, ![1000]⟩
abbrev S1024x19 : Shape := ⟨2, ![1024, 19]⟩
abbrev S_ : Shape := ⟨0, ![]⟩
abbrev S1024x19x1 : Shape := ⟨3, ![1024, 19, 1]⟩
abbrev S1 : Shape := ⟨1, ![1]⟩
abbrev S1x1x1 : Shape := ⟨3, ![1, 1, 1]⟩
abbrev S1024x19x128 : Shape := ⟨3, ![1024, 19, 128]⟩
abbrev S1024x1x128 : Shape := ⟨3, ![1024, 1, 128]⟩
abbrev S1024x20x128 : Shape := ⟨3, ![1024, 20, 128]⟩
abbrev S20x1024x128 : Shape := ⟨3, ![20, 1024, 128]⟩
abbrev S20x1024x256 : Shape := ⟨3, ![20, 1024, 256]⟩
abbrev S1x1024x128 : Shape := ⟨3, ![1, 1024, 128]⟩
abbrev S128x1024 : Shape := ⟨2, ![128, 1024]⟩
abbrev S1024x1024 : Shape := ⟨2, ![1024, 1024]⟩
abbrev S256x1024 : Shape := ⟨2, ![256, 1024]⟩
abbrev S1x1024 : Shape := ⟨2, ![1, 1024]⟩
abbrev S1x1024x256 : Shape := ⟨3, ![1, 1024, 256]⟩
abbrev S1024x20x256 : Shape := ⟨3, ![1024, 20, 256]⟩
abbrev S256x1000 : Shape := ⟨2, ![256, 1000]⟩
abbrev S1024x20x1000 : Shape := ⟨3, ![1024, 20, 1000]⟩
abbrev S1x1x1000 : Shape := ⟨3, ![1, 1, 1000]⟩

abbrev nBuf : Space → Nat
  | .hbm => 115
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S1024x20, .i32⟩
  | .hbm, ⟨2, _⟩ => ⟨S1000x128, .f32⟩
  | .hbm, ⟨3, _⟩ => ⟨S1024x128, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S1000x256, .f32⟩
  | .hbm, ⟨8, _⟩ => ⟨S1000, .f32⟩
  | .hbm, ⟨9, _⟩ => ⟨S1024x19, .i32⟩
  | .hbm, ⟨10, _⟩ => ⟨S_, .i32⟩
  | .hbm, ⟨11, _⟩ => ⟨S1024x19, .i32⟩
  | .hbm, ⟨12, _⟩ => ⟨S1024x19, .i1⟩
  | .hbm, ⟨13, _⟩ => ⟨S_, .i32⟩
  | .hbm, ⟨14, _⟩ => ⟨S1024x19, .i32⟩
  | .hbm, ⟨15, _⟩ => ⟨S1024x19, .i32⟩
  | .hbm, ⟨16, _⟩ => ⟨S1024x19, .i32⟩
  | .hbm, ⟨17, _⟩ => ⟨S1024x19x1, .i32⟩
  | .hbm, ⟨18, _⟩ => ⟨S1, .i32⟩
  | .hbm, ⟨19, _⟩ => ⟨S_, .i32⟩
  | .hbm, ⟨20, _⟩ => ⟨S1024x19x1, .i32⟩
  | .hbm, ⟨21, _⟩ => ⟨S1024x19x1, .i1⟩
  | .hbm, ⟨22, _⟩ => ⟨S1x1x1, .i32⟩
  | .hbm, ⟨23, _⟩ => ⟨S1024x19x1, .i32⟩
  | .hbm, ⟨24, _⟩ => ⟨S1024x19x1, .i1⟩
  | .hbm, ⟨25, _⟩ => ⟨S1024x19x1, .i1⟩
  | .hbm, ⟨26, _⟩ => ⟨S_, .i1⟩
  | .hbm, ⟨27, _⟩ => ⟨S1024x19, .i1⟩
  | .hbm, ⟨28, _⟩ => ⟨S1024x19x128, .f32⟩
  | .hbm, ⟨29, _⟩ => ⟨S1024x19x128, .i1⟩
  | .hbm, ⟨30, _⟩ => ⟨S_, .f32⟩
  | .hbm, ⟨31, _⟩ => ⟨S1024x19x128, .f32⟩
  | .hbm, ⟨32, _⟩ => ⟨S1024x19x128, .f32⟩
  | .hbm, ⟨33, _⟩ => ⟨S1024x1x128, .f32⟩
  | .hbm, ⟨34, _⟩ => ⟨S1024x20x128, .f32⟩
  | .hbm, ⟨35, _⟩ => ⟨S_, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S20x1024x128, .f32⟩
  | .hbm, ⟨40, _⟩ => ⟨S_, .f32⟩
  | .hbm, ⟨41, _⟩ => ⟨S20x1024x256, .f32⟩
  | .hbm, ⟨42, _⟩ => ⟨S_, .i32⟩
  | .hbm, ⟨43, _⟩ => ⟨S20x1024x128, .f32⟩
  | .hbm, ⟨44, _⟩ => ⟨S1024x128, .f32⟩
  | .hbm, ⟨45, _⟩ => ⟨S1024x256, .f32⟩
  | .hbm, ⟨46, _⟩ => ⟨S1024, .f32⟩
  | .hbm, ⟨47, _⟩ => ⟨S1024, .f32⟩
  | .hbm, ⟨48, _⟩ => ⟨S_, .i32⟩
  | .hbm, ⟨49, _⟩ => ⟨S1024x256, .f32⟩
  | .hbm, ⟨50, _⟩ => ⟨S1024x256, .f32⟩
  | .hbm, ⟨51, _⟩ => ⟨S20x1024x256, .f32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S1x1024x128, .f32⟩
  | .hbm, ⟨57, _⟩ => ⟨S1024x128, .f32⟩
  | .hbm, ⟨58, _⟩ => ⟨S128x1024, .f32⟩
  | .hbm, ⟨59, _⟩ => ⟨S1024x1024, .f32⟩
  | .hbm, ⟨60, _⟩ => ⟨S256x1024, .f32⟩
  | .hbm, ⟨61, _⟩ => ⟨S1024x1024, .f32⟩
  | .hbm, ⟨62, _⟩ => ⟨S1024x1024, .f32⟩
  | .hbm, ⟨63, _⟩ => ⟨S1x1024, .f32⟩
  | .hbm, ⟨64, _⟩ => ⟨S1024x1024, .f32⟩
  | .hbm, ⟨65, _⟩ => ⟨S1024x1024, .f32⟩
  | .hbm, ⟨66, _⟩ => ⟨S1x1024, .f32⟩
  | .hbm, ⟨67, _⟩ => ⟨S1024x1024, .f32⟩
  | .hbm, ⟨68, _⟩ => ⟨S1024x1024, .f32⟩
  | .hbm, ⟨69, _⟩ => ⟨S1024x256, .f32⟩
  | .hbm, ⟨70, _⟩ => ⟨S1024x256, .f32⟩
  | .hbm, ⟨71, _⟩ => ⟨S1024x256, .f32⟩
  | .hbm, ⟨72, _⟩ => ⟨S1024x256, .f32⟩
  | .hbm, ⟨73, _⟩ => ⟨S1024x256, .f32⟩
  | .hbm, ⟨74, _⟩ => ⟨S1024x256, .f32⟩
  | .hbm, ⟨75, _⟩ => ⟨S_, .f32⟩
  | .hbm, ⟨76, _⟩ => ⟨S1024x256, .f32⟩
  | .hbm, ⟨77, _⟩ => ⟨S1024x256, .f32⟩
  | .hbm, ⟨78, _⟩ => ⟨S_, .f32⟩
  | .hbm, ⟨79, _⟩ => ⟨S1024x256, .f32⟩
  | .hbm, ⟨80, _⟩ => ⟨S1024x256, .f32⟩
  | .hbm, ⟨81, _⟩ => ⟨S1024x256, .f32⟩
  | .hbm, ⟨82, _⟩ => ⟨S1024x256, .f32⟩
  | .hbm, ⟨83, _⟩ => ⟨S_, .f32⟩
  | .hbm, ⟨84, _⟩ => ⟨S1024x256, .f32⟩
  | .hbm, ⟨85, _⟩ => ⟨S1024x256, .f32⟩
  | .hbm, ⟨86, _⟩ => ⟨S_, .f32⟩
  | .hbm, ⟨87, _⟩ => ⟨S1024x256, .f32⟩
  | .hbm, ⟨88, _⟩ => ⟨S1024x256, .f32⟩
  | .hbm, ⟨89, _⟩ => ⟨S1024x256, .f32⟩
  | .hbm, ⟨90, _⟩ => ⟨S1024x256, .f32⟩
  | .hbm, ⟨91, _⟩ => ⟨S1024x256, .f32⟩
  | .hbm, ⟨92, _⟩ => ⟨S_, .f32⟩
  | .hbm, ⟨93, _⟩ => ⟨S1024x256, .f32⟩
  | .hbm, ⟨94, _⟩ => ⟨S1024x256, .f32⟩
  | .hbm, ⟨95, _⟩ => ⟨S_, .f32⟩
  | .hbm, ⟨96, _⟩ => ⟨S1024x256, .f32⟩
  | .hbm, ⟨97, _⟩ => ⟨S1024x256, .f32⟩
  | .hbm, ⟨98, _⟩ => ⟨S1024x256, .f32⟩
  | .hbm, ⟨99, _⟩ => ⟨S1024x256, .f32⟩
  | .hbm, ⟨100, _⟩ => ⟨S1024x256, .f32⟩
  | .hbm, ⟨101, _⟩ => ⟨S1024x256, .f32⟩
  | .hbm, ⟨102, _⟩ => ⟨S1024x256, .f32⟩
  | .hbm, ⟨103, _⟩ => ⟨S1x1024x256, .f32⟩
  | .hbm, ⟨104, _⟩ => ⟨S_, .i32⟩
  | .hbm, ⟨105, _⟩ => ⟨S_, .i32⟩
  | .hbm, ⟨106, _⟩ => ⟨S20x1024x256, .f32⟩
  | .hbm, ⟨107, _⟩ => ⟨S_, .i32⟩
  | .hbm, ⟨108, _⟩ => ⟨S_, .i32⟩
  | .hbm, ⟨109, _⟩ => ⟨S1024x20x256, .f32⟩
  | .hbm, ⟨110, _⟩ => ⟨S256x1000, .f32⟩
  | .hbm, ⟨111, _⟩ => ⟨S1024x20x1000, .f32⟩
  | .hbm, ⟨112, _⟩ => ⟨S1x1x1000, .f32⟩
  | .hbm, ⟨113, _⟩ => ⟨S1024x20x1000, .f32⟩
  | .hbm, ⟨114, _⟩ => ⟨S1024x20x1000, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_cst : Ref sig .tc := ⟨.hbm, 35, rfl⟩
abbrev main_v4 : Ref sig .tc := ⟨.hbm, 36, rfl⟩
abbrev main_cst_0 : Ref sig .tc := ⟨.hbm, 37, rfl⟩
abbrev main_v5 : Ref sig .tc := ⟨.hbm, 38, rfl⟩
abbrev main_v6 : Ref sig .tc := ⟨.hbm, 39, rfl⟩
abbrev main_cst_1 : Ref sig .tc := ⟨.hbm, 40, rfl⟩
abbrev main_v7 : Ref sig .tc := ⟨.hbm, 41, rfl⟩
abbrev main_c : Ref sig .tc := ⟨.hbm, 42, rfl⟩
abbrev main_v8_0 : Ref sig .tc := ⟨.hbm, 43, rfl⟩
abbrev main_v8_1 : Ref sig .tc := ⟨.hbm, 44, rfl⟩
abbrev main_v8_2 : Ref sig .tc := ⟨.hbm, 45, rfl⟩
abbrev main_v8_3 : Ref sig .tc := ⟨.hbm, 46, rfl⟩
abbrev main_v8_4 : Ref sig .tc := ⟨.hbm, 47, rfl⟩
abbrev main_v8_5 : Ref sig .tc := ⟨.hbm, 48, rfl⟩
abbrev main_v8_6 : Ref sig .tc := ⟨.hbm, 49, rfl⟩
abbrev main_v8_7 : Ref sig .tc := ⟨.hbm, 50, rfl⟩
abbrev main_v8_8 : Ref sig .tc := ⟨.hbm, 51, rfl⟩
abbrev main_while0c_c_10 : Ref sig .tc := ⟨.hbm, 52, rfl⟩
abbrev main_while0c_v15 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_v0 : Ref sig .tc := ⟨.hbm, 56, rfl⟩
abbrev main_while0b_v15 : Ref sig .tc := ⟨.hbm, 57, rfl⟩
abbrev main_while0b_v16 : Ref sig .tc := ⟨.hbm, 58, rfl⟩
abbrev main_while0b_v17 : Ref sig .tc := ⟨.hbm, 59, rfl⟩
abbrev main_while0b_v18 : Ref sig .tc := ⟨.hbm, 60, rfl⟩
abbrev main_while0b_v19 : Ref sig .tc := ⟨.hbm, 61, rfl⟩
abbrev main_while0b_v20 : Ref sig .tc := ⟨.hbm, 62, rfl⟩
abbrev main_while0b_v21 : Ref sig .tc := ⟨.hbm, 63, rfl⟩
abbrev main_while0b_v22 : Ref sig .tc := ⟨.hbm, 64, rfl⟩
abbrev main_while0b_v23 : Ref sig .tc := ⟨.hbm, 65, rfl⟩
abbrev main_while0b_v24 : Ref sig .tc := ⟨.hbm, 66, rfl⟩
abbrev main_while0b_v25 : Ref sig .tc := ⟨.hbm, 67, rfl⟩
abbrev main_while0b_v26 : Ref sig .tc := ⟨.hbm, 68, rfl⟩
abbrev main_while0b_v27 : Ref sig .tc := ⟨.hbm, 69, rfl⟩
abbrev main_while0b_v28 : Ref sig .tc := ⟨.hbm, 70, rfl⟩
abbrev main_while0b_v29 : Ref sig .tc := ⟨.hbm, 71, rfl⟩
abbrev main_while0b_v30 : Ref sig .tc := ⟨.hbm, 72, rfl⟩
abbrev main_while0b_v31 : Ref sig .tc := ⟨.hbm, 73, rfl⟩
abbrev main_while0b_v32 : Ref sig .tc := ⟨.hbm, 74, rfl⟩
abbrev main_while0b_cst_10 : Ref sig .tc := ⟨.hbm, 75, rfl⟩
abbrev main_while0b_v33 : Ref sig .tc := ⟨.hbm, 76, rfl⟩
abbrev main_while0b_v34 : Ref sig .tc := ⟨.hbm, 77, rfl⟩
abbrev main_while0b_cst_11 : Ref sig .tc := ⟨.hbm, 78, rfl⟩
abbrev main_while0b_v35 : Ref sig .tc := ⟨.hbm, 79, rfl⟩
abbrev main_while0b_v36 : Ref sig .tc := ⟨.hbm, 80, rfl⟩
abbrev main_while0b_v37 : Ref sig .tc := ⟨.hbm, 81, rfl⟩
abbrev main_while0b_v38 : Ref sig .tc := ⟨.hbm, 82, rfl⟩
abbrev main_while0b_cst_12 : Ref sig .tc := ⟨.hbm, 83, rfl⟩
abbrev main_while0b_v39 : Ref sig .tc := ⟨.hbm, 84, rfl⟩
abbrev main_while0b_v40 : Ref sig .tc := ⟨.hbm, 85, rfl⟩
abbrev main_while0b_cst_13 : Ref sig .tc := ⟨.hbm, 86, rfl⟩
abbrev main_while0b_v41 : Ref sig .tc := ⟨.hbm, 87, rfl⟩
abbrev main_while0b_v42 : Ref sig .tc := ⟨.hbm, 88, rfl⟩
abbrev main_while0b_v43 : Ref sig .tc := ⟨.hbm, 89, rfl⟩
abbrev main_while0b_v44 : Ref sig .tc := ⟨.hbm, 90, rfl⟩
abbrev main_while0b_v45 : Ref sig .tc := ⟨.hbm, 91, rfl⟩
abbrev main_while0b_cst_14 : Ref sig .tc := ⟨.hbm, 92, rfl⟩
abbrev main_while0b_v46 : Ref sig .tc := ⟨.hbm, 93, rfl⟩
abbrev main_while0b_v47 : Ref sig .tc := ⟨.hbm, 94, rfl⟩
abbrev main_while0b_cst_15 : Ref sig .tc := ⟨.hbm, 95, rfl⟩
abbrev main_while0b_v48 : Ref sig .tc := ⟨.hbm, 96, rfl⟩
abbrev main_while0b_v49 : Ref sig .tc := ⟨.hbm, 97, rfl⟩
abbrev main_while0b_v50 : Ref sig .tc := ⟨.hbm, 98, rfl⟩
abbrev main_while0b_v51 : Ref sig .tc := ⟨.hbm, 99, rfl⟩
abbrev main_while0b_v52 : Ref sig .tc := ⟨.hbm, 100, rfl⟩
abbrev main_while0b_v53 : Ref sig .tc := ⟨.hbm, 101, rfl⟩
abbrev main_while0b_v54 : Ref sig .tc := ⟨.hbm, 102, rfl⟩
abbrev main_while0b_call2_v0 : Ref sig .tc := ⟨.hbm, 103, rfl⟩
abbrev main_while0b_call2_c : Ref sig .tc := ⟨.hbm, 104, rfl⟩
abbrev main_while0b_call2_c_0 : Ref sig .tc := ⟨.hbm, 105, rfl⟩
abbrev main_while0b_v55 : Ref sig .tc := ⟨.hbm, 106, rfl⟩
abbrev main_while0b_c_16 : Ref sig .tc := ⟨.hbm, 107, rfl⟩
abbrev main_while0b_v56 : Ref sig .tc := ⟨.hbm, 108, rfl⟩
abbrev main_v9 : Ref sig .tc := ⟨.hbm, 109, rfl⟩
abbrev main_v10 : Ref sig .tc := ⟨.hbm, 110, rfl⟩
abbrev main_v11 : Ref sig .tc := ⟨.hbm, 111, rfl⟩
abbrev main_v12 : Ref sig .tc := ⟨.hbm, 112, rfl⟩
abbrev main_v13 : Ref sig .tc := ⟨.hbm, 113, rfl⟩
abbrev main_v14 : Ref sig .tc := ⟨.hbm, 114, rfl⟩

abbrev nD : Nat := 1
abbrev τ : Topo := Topo.v7x

variable {F : FTy → Type} [FloatOps F]

abbrev main_while0_count : Scf.Loop 32 := ⟨0#32, 20#32, 1#32⟩
-- ==== Proof.Setup.lean ====
/-
  The launch's set-up, shared by every module of the proof.

  The program has two kernels: the embedding lookup, run by the thirty-two vector subcores, and the LSTM with its
  output projection, a grid of twenty steps on the TensorCore. The ghost state is therefore a product of three: the
  rounds of the SparseCore call's handshakes, the rounds of the grid's window copies, and the counters of the subcores'
  own copies.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.Pre_in_vocabulary

@[expose] public section

noncomputable section

namespace Cert.Proof

open Cert.KernelIdeal Cert.KernelIdeal.Gen

open Idealize.ShloMosaic
open Idealize.SL Idealize.SL.RA Idealize.SL.BI
open Idealize.SL.Sem
open Idealize.ShloMosaic.Rounds
open Idealize.ShloMosaic.SparseCore.Cfg (HIx)

variable {F : FTy → Type}

/-- The labels of the pipelined program: the kernels' and the one region's. -/
abbrev ΛP : Labels := Pipeline.Sig Λ₀ (Fin 1) fun p => (pcfgs (F := F) p).Adm
/-- The program's one SparseCore call. -/
abbrev K : SparseCore.Cfg τ sig (ΛP (F := F)) 1 := sc (F := F)
/-- The pipelined program's definitions, below the SparseCore call. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-- The call's semaphores are distinct and none is scoped; no buffer of a SparseCore is shared between its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds. -/
abbrev UH : Type := URounds (GSem nD τ sig) ℕ
/-- The window copies' rounds. -/
abbrev UP : Type := URounds (GSem nD τ sig) Unit
/-- The ghost state: the handshakes' rounds, the window copies' rounds, the subcores' counters. -/
abbrev UU : Type := UH × (UP × Counters)

/-- Where the handshakes' rounds lie in the ghost state. -/
abbrev EH : Emb UH (MT nD τ sig (HIx 1) (Elt F) ℕ UU ℕ) := embL
/-- Where the window copies' rounds lie in the ghost state. -/
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by
  unfold EP embR; infer_instance

end Cert.Proof

end
-- ==== Proof.Gather.lean ====
/-
  The embedding lookup on the SparseCores.

  Thirty-two tasks, one on each vector subcore. Task `w` copies its 608 words of the index list, gathers the rows of the
  table they name, and copies those rows to its 608 rows of the result. All that a task does is stated once, at a
  symbolic place on the two-by-sixteen grid of subcores: from its part of the list, a share of the table and its part of
  the result, it brings back the same with the result's part holding the named rows (`rowsOf`).
-/
module

public import proofs.«01_k».proof.Proof.Setup
public import Idealize.ShloMosaic.Lib.ValueIdx

@[expose] public section

noncomputable section

namespace Cert.Proof.Gather

open Cert.KernelIdeal Cert.KernelIdeal.Gen Cert.Proof

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The value -/

/-- The lookup's result: row `j` is the table's row named by word `j` of the list. -/
def rowsOf (tv : S1000x128.Idx → Elt F .f32) (xs : S19456.Idx → BitVec 32) : S19456x128.Idx → Elt F .f32 :=
  fun j => tv (ix2 ⟨min (xs (ix1 (j 0))).toNat 999, by omega⟩ (j 1))

/-- Every word of the list names a row of the table. -/
def InTable (xs : S19456.Idx → BitVec 32) : Prop := ∀ j, (xs j).toNat < 1000

/-! ## The buffers and their parts -/

abbrev iLoc (d : Dev nD) : Loc nD τ sig := (SparseCore.T d).loc main_v2
abbrev xLoc (d : Dev nD) : Loc nD τ sig := (SparseCore.T d).loc main_arg2
abbrev oLoc (d : Dev nD) : Loc nD τ sig := (SparseCore.T d).loc main_v3

local notation "iV" => (Memref.whole Cert.KernelIdeal.main_v2_scv : Memref Cert.KernelIdeal.sig Kind.scVector Space.hbm Cert.KernelIdeal.S19456 EltTy.i32)
local notation "xV" => (Memref.whole Cert.KernelIdeal.main_arg2_scv : Memref Cert.KernelIdeal.sig Kind.scVector Space.hbm Cert.KernelIdeal.S1000x128 EltTy.f32)
local notation "oV" => (Memref.whole Cert.KernelIdeal.main_v3_scv : Memref Cert.KernelIdeal.sig Kind.scVector Space.hbm Cert.KernelIdeal.S19456x128 EltTy.f32)
local notation "sV" => (Memref.whole Cert.KernelIdeal.cc0_scratch0 : Memref Cert.KernelIdeal.sig Kind.scVector Space.vmem Cert.KernelIdeal.S608 EltTy.i32)
local notation "rV" => (Memref.whole Cert.KernelIdeal.cc0_scratch1 : Memref Cert.KernelIdeal.sig Kind.scVector Space.vmem Cert.KernelIdeal.S608x128 EltTy.f32)

theorem idiv : 32 ∣ S19456.size 0 := ⟨608, rfl⟩
theorem odiv : 32 ∣ S19456x128.size 0 := ⟨608, rfl⟩
/-- The `w`-th of thirty-two equal parts of the list, and of the result's rows. -/
abbrev ipart (w : Fin 32) : Rect S19456 := Rect.part (s := S19456) (a₀ := 0) idiv w
abbrev opart (w : Fin 32) : Rect S19456x128 := Rect.part (s := S19456x128) (a₀ := 0) odiv w
abbrev iSet (w : Fin 32) : Finset S19456.Idx := ((iV).view.slice (ipart w)).set
abbrev oSet (w : Fin 32) : Finset S19456x128.Idx := ((oV).view.slice (opart w)).set
/-- Task `w`'s share of the table. -/
abbrev xq (w : Fin 32) : PosShare TreeShare := pieceOf fullShare 32 (by decide) w

/-- The task of core `c`'s subcore `i`. -/
def wOf (c : Fin 2) (i : Fin 16) : Fin 32 := ⟨2 * i.val + c.val, by omega⟩

variable [FloatOps F]

variable (xs : (d : Dev nD) → S19456.Idx → BitVec 32) (tv : (d : Dev nD) → S1000x128.Idx → Elt F .f32)
variable (ov : (d : Dev nD) → S19456x128.Idx → Elt F .f32)

abbrev iPts (d : Dev nD) (w : Fin 32) : sProp 𝕄 := iLoc d ↦[iSet w]{fullShare} (xs d : Buf (Elt F) (iLoc d))
abbrev xPts (d : Dev nD) (w : Fin 32) : sProp 𝕄 := xLoc d ↦{xq w} (tv d : Buf (Elt F) (xLoc d))
abbrev oPts (d : Dev nD) (w : Fin 32) (f : S19456x128.Idx → Elt F .f32) : sProp 𝕄 := oLoc d ↦[oSet w]{fullShare} (f : Buf (Elt F) (oLoc d))

/-- What task `w` takes: its part of the list, its share of the table, its part of the result at what it held. -/
abbrev takes (d : Dev nD) (w : Fin 32) : sProp 𝕄 := iprop(iPts (F := F) xs d w ∗ xPts tv d w ∗ oPts d w (ov d))
/-- What it brings back: the same, the result's part now the named rows. -/
abbrev brings (d : Dev nD) (w : Fin 32) : sProp 𝕄 := iprop(iPts (F := F) xs d w ∗ xPts tv d w ∗ oPts d w (rowsOf (tv d) (xs d)))

/-- What the call's handshakes carry: each core its sixteen tasks' parts. -/
def P : (K (F := F)).Pay (nD := nD) (Val := Elt F) (Name := ℕ) (U := UU) where
  st := fun q d c => match q with | 0 => bigSep Finset.univ fun i : Fin 16 => takes xs tv ov d (wOf (Fin.cast nCore_zero c) i)
  dn := fun q d c => match q with | 0 => bigSep Finset.univ fun i : Fin 16 => brings xs tv d (wOf (Fin.cast nCore_zero c) i)
  go := fun q d c i => match q with | 0 => takes xs tv ov d (wOf (Fin.cast nCore_zero c) (Fin.cast nSub_zero i))
  td := fun q d c i => match q with | 0 => brings xs tv d (wOf (Fin.cast nCore_zero c) (Fin.cast nSub_zero i))
  x := fun _ _ => iprop(emp)

instance P_storable : (P (F := F) xs tv ov).IsStorable where
  st q d c := match q with
    | 0 => (inferInstance : BI.Storable (upEmb : UEmb _ 𝕄) (bigSep Finset.univ fun i : Fin 16 => takes xs tv ov d (wOf (Fin.cast nCore_zero c) i)))
  dn q d c := match q with
    | 0 => (inferInstance : BI.Storable (upEmb : UEmb _ 𝕄) (bigSep Finset.univ fun i : Fin 16 => brings xs tv d (wOf (Fin.cast nCore_zero c) i)))
  go q d c i := match q with
    | 0 => (inferInstance : BI.Storable (upEmb : UEmb _ 𝕄) (takes xs tv ov d (wOf (Fin.cast nCore_zero c) (Fin.cast nSub_zero i))))
  td q d c i := match q with
    | 0 => (inferInstance : BI.Storable (upEmb : UEmb _ 𝕄) (brings xs tv d (wOf (Fin.cast nCore_zero c) (Fin.cast nSub_zero i))))

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The task at place `L` of the grid. -/
abbrev wL (L : grid0.Coords) : Fin 32 := wOf (Fin.cast bound_zero (L 0)) (Fin.cast bound_one (L 1))

/-- The task's words of the list, its rows of the result, and all of the table, as the task addresses them. -/
abbrev iRowK (L : grid0.Coords) : Memref sig .scVector .hbm S608 .i32 :=
  (iV).slice (Rect.unit (s := S19456) (k0_off1 L) S608.size (k0_off1_inb L)) (fun _ => rfl)
abbrev oRowK (L : grid0.Coords) : Memref sig .scVector .hbm S608x128 .f32 :=
  (oV).slice (Rect.unit (s := S19456x128) (k0_off2 L) S608x128.size (k0_off2_inb L)) (fun _ => rfl)
abbrev xAllK : Memref sig .scVector .hbm S1000x128 .f32 :=
  (xV).slice (Rect.unit (s := S1000x128) ![0, 0] S1000x128.size inb_S1000x128_S1000x128_0_0) (fun _ => rfl)

omit [FloatOps F] in
/-- The rectangle of the list the task addresses is its part. -/
theorem irect_eq : Rect.unit (s := S19456) (k0_off1 L) S608.size (k0_off1_inb L) = ipart (wL L) := by
  unfold ipart Rect.part Rect.block
  congr 1 <;> funext a
  · rw [k0_off1_eq]
    match a with
    | 0 => simp [Shape.partIx, Shape.partSize]; have h : (wL L).val = 2 * (L 1).val + (L 0).val := rfl; omega
  · match a with
    | 0 => simp [Shape.partSize]
omit [FloatOps F] in
/-- The rectangle of the result the task addresses is its part. -/
theorem orect_eq : Rect.unit (s := S19456x128) (k0_off2 L) S608x128.size (k0_off2_inb L) = opart (wL L) := by
  unfold opart Rect.part Rect.block
  congr 1 <;> funext a
  · rw [k0_off2_eq]
    match a with
    | 0 => simp [Shape.partIx, Shape.partSize]; have h : (wL L).val = 2 * (L 1).val + (L 0).val := rfl; omega
    | 1 => simp [Shape.partIx, Shape.partSize]
  · match a with
    | 0 => simp [Shape.partSize]
    | 1 => simp [Shape.partSize]

omit [FloatOps F] in
theorem set_iRowK : (iRowK L).view.set = iSet (wL L) := by
  show ((iV).view.slice (Rect.unit (s := S19456) (k0_off1 L) S608.size (k0_off1_inb L))).set = ((iV).view.slice (ipart (wL L))).set
  exact irect_eq L ▸ rfl
omit [FloatOps F] in
theorem set_oRowK : (oRowK L).view.set = oSet (wL L) := by
  show ((oV).view.slice (Rect.unit (s := S19456x128) (k0_off2 L) S608x128.size (k0_off2_inb L))).set = ((oV).view.slice (opart (wL L))).set
  exact orect_eq L ▸ rfl

omit [FloatOps F] in
theorem pts_iRowK (f : Buf (Elt F) (iLoc d)) :
    ((iRowK L).view.loc (V d (cV L) (jV L)) ↦[(iRowK L).view.set]{fullShare} f : sProp 𝕄) = iLoc d ↦[iSet (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp 𝕄) = oLoc d ↦[oSet (wL L)]{fullShare} f := by
  rw [set_oRowK]
omit [FloatOps F] in
theorem pts_xV (q : PosShare TreeShare) (f : Buf (Elt F) (xLoc d)) :
    ((xV).view.loc (V d (cV L) (jV L)) ↦{q} f : sProp 𝕄) = xLoc d ↦{q} f := rfl
omit [FloatOps F] in
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
omit [FloatOps F] in
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The list's copy's, the gather's and the result's copy's semaphores. -/
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
/-- The three semaphores are among the subcore's own, at zero. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The list's scratch and the rows' scratch are among the subcore's own buffers. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- What the list's copy lands in the scratch: the task's words of the list. -/
abbrev words (xs : S19456.Idx → BitVec 32) (L : grid0.Coords) : S608.Idx → Elt F .i32 := (iRowK L).view.read (Elt F) xs

omit [FloatOps F] in
theorem words_apply (x : S19456.Idx → BitVec 32) (j : S608.Idx) : words (F := F) x L j = x ((iRowK L).view.emb j) :=
  (View.read_apply _ _).trans (cast_eq _ _)

omit [FloatOps F] in
/-- What the scratch reads once the list's copy has landed. -/
theorem read_landed (x : S19456.Idx → BitVec 32) (fs : (sV).view.ty.Contents (Elt F)) :
    (sV).view.read (Elt F) (View.write (Elt F) (sV).view fs (words x L) Finset.univ) = words x L :=
  View.read_write_univ _ _

omit [FloatOps F] in
/-- The landed words name rows of the table. -/
theorem landed_inb (x : S19456.Idx → BitVec 32) (hx : InTable x) (fs : (sV).view.ty.Contents (Elt F)) :
    ∀ j, ((sV).view.read (Elt F) (View.write (Elt F) (sV).view fs (words x L) Finset.univ) j).toNat
      < S1000x128.size gathers_S1000x128_S608x128.axis := by
  intro j
  rw [read_landed, words_apply]; exact hx _

omit [FloatOps F] in
/-- The gathered rows are the lookup's at the task's rows: element `j` of what the stream delivers is element
    `j` of the task's part of `rowsOf`. -/
theorem gathered_apply (t : S1000x128.Idx → Elt F .f32) (x : S19456.Idx → BitVec 32) (idx : S608.Idx → Elt F .i32) (hidx : idx = words x L)
    (hn : S608.numel = S608x128.size gathers_S1000x128_S608x128.axis')
    (hin : ∀ j, (idx j).toNat < S1000x128.size gathers_S1000x128_S608x128.axis) (j : S608x128.Idx) :
    SparseCore.gatherPayload gathers_S1000x128_S608x128 ((xAllK).view.read (Elt F) t) (SparseCore.rows idx hn hin) j
      = rowsOf t x ((oRowK L).view.emb j) := by
  subst hidx
  unfold SparseCore.gatherPayload rowsOf
  refine (View.read_apply _ _).trans ((cast_eq _ _).trans (congrArg t ?_))
  have hk : S608.rowMajor.symm ((j gathers_S1000x128_S608x128.axis').cast hn.symm) = (ix1 (j 0) : S608.Idx) :=
    (Equiv.symm_apply_eq _).mpr (Fin.ext (show (j 0).val = _ from (Shape.rowMajor_val_one (d := ![608]) (ix1 (j 0))).symm))
  have hrow : (iRowK L).view.emb (ix1 (j 0)) = ix1 ((oRowK L).view.emb j 0) := by
    funext a; apply Fin.ext
    match a with
    | ⟨0, _⟩ =>
      show k0_off1 L 0 + 1 * (j 0).val = k0_off2 L 0 + 1 * (j 0).val
      rw [k0_off1_eq, k0_off2_eq]; rfl
  funext a; apply Fin.ext
  match a with
  | ⟨0, _⟩ =>
    show 0 + 1 * (gathers_S1000x128_S608x128.idx (SparseCore.rows (words x L) hn hin) j gathers_S1000x128_S608x128.axis).val = _
    rw [Shape.Gathers.idx_axis]
    show 0 + 1 * (words x L (S608.rowMajor.symm ((j gathers_S1000x128_S608x128.axis').cast hn.symm))).toNat = min (x (ix1 ((oRowK L).view.emb j 0))).toNat 999
    have h : (words (F := F) x L (ix1 (j 0))).toNat < 1000 := hin (ix1 (j 0))
    have hw : words (F := F) x L (ix1 (j 0)) = x (ix1 ((oRowK L).view.emb j 0)) :=
      (words_apply L x (ix1 (j 0))).trans (congrArg x hrow)
    rw [hk, hw]
    rw [hw] at h
    exact (Nat.zero_add _).trans ((Nat.one_mul _).trans (Nat.min_eq_left (Nat.le_of_lt_succ h)).symm)
  | ⟨1, _⟩ =>
    show 0 + 1 * (gathers_S1000x128_S608x128.idx (SparseCore.rows (words x L) hn hin) j 1).val = k0_off2 L 1 + 1 * (j 1).val
    rw [Shape.Gathers.idx_of_ne _ _ _ _ (by decide), k0_off2_eq]; rfl

omit [FloatOps F] in
/-- What the rows' scratch reads once the gather has landed: the lookup's rows at the task's place. -/
theorem landed_rows (t : S1000x128.Idx → Elt F .f32) (x : S19456.Idx → BitVec 32) (fs : (sV).view.ty.Contents (Elt F)) (fr : (rV).view.ty.Contents (Elt F))
    (hn : S608.numel = S608x128.size gathers_S1000x128_S608x128.axis')
    (hin : ∀ j, ((sV).view.read (Elt F) (View.write (Elt F) (sV).view fs (words x L) Finset.univ) j).toNat < S1000x128.size gathers_S1000x128_S608x128.axis)
    (j : S608x128.Idx) :
    (rV).view.read (Elt F) (View.write (Elt F) (rV).view fr (SparseCore.gatherPayload gathers_S1000x128_S608x128 ((xAllK).view.read (Elt F) t)
      (SparseCore.rows ((sV).view.read (Elt F) (View.write (Elt F) (sV).view fs (words x L) Finset.univ)) hn hin)) Finset.univ) j
      = rowsOf t x ((oRowK L).view.emb j) :=
  (congrFun (View.read_write_univ (v := (rV).view) fr _) j).trans (gathered_apply L t x _ (read_landed L x fs) hn hin j)

omit [FloatOps F] in
/-- The result's part, once the gathered rows are copied into it, holds the lookup's rows. -/
theorem oPts_of_landed (t : S1000x128.Idx → Elt F .f32) (x : S19456.Idx → BitVec 32) (f : Buf (Elt F) (oLoc d)) (pay : S608x128.Idx → Elt F .f32)
    (h : ∀ j, pay j = rowsOf t x ((oRowK L).view.emb j)) :
    ((oRowK L).view.loc (V d (cV L) (jV L)) ↦[(oRowK L).view.set]{fullShare}
        (oRowK L).view.writes (Elt F) f [⟨Rect.whole S608x128, pay⟩] : sProp 𝕄)
      = oPts d (wL L) (rowsOf t x) := by
  refine (pointsTo_congr fun i hi => ?_).trans (pts_oRowK (F := F) d L (rowsOf t x))
  obtain ⟨j, -, rfl⟩ := Finset.mem_map.mp hi
  have e := View.read_writes_cons_emb (v := (oRowK L).view) (f := f) (Rect.whole S608x128) pay [] j
  rw [Rect.emb_whole_apply] at e
  exact ((cast_eq _ _).symm.trans ((View.read_apply _ _).symm.trans e)).trans (h j)

set_option maxHeartbeats 4000000 in
/-- The task at place `L`: the list's copy and its wait, the indirect gather and its wait, the copy to the result and
    its wait. Nothing it waits for can be withheld, and it ends with what it brings (`brings`). -/
theorem tile_body (hF : (K (F := F)).Facts) (hxs : InTable (xs d)) (O : CellTallies nD τ sig (HIx 1)) (W : Waits sig (HIx 1)) (hO : ∀ g, O g none = 0) :
    iprop(levAts (K (F := F)).L (K (F := F)).lev ∗ emp ∗ takes xs tv ov d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L iV (Memref.isWhole_whole _) xV (Memref.isWhole_whole _) oV (Memref.isWhole_whole _)
            sV (Memref.isWhole_whole _) rV (Memref.isWhole_whole _) cc0_scratch2 cc0_scoped0 cc0_scoped1)
          fun _ => iprop(brings xs tv d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- The gather takes the elements of the table its slice spans out of the task's share, and both scratches at
  -- their views' elements, which are all of each.
  ihave Hxs := (pointsTo_split_subset (ℓ := xLoc d) (q := xq (wL L)) (f := tv d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 xs d L) Finset.univ : sProp 𝕄)
      = (sV).view.loc (V d (cV L) (jV L)) ↦[(sV).view.set]{fullShare} View.write (Elt F) (sV).view fs (words (xs d) L) Finset.univ
      by rw [hss]; rfl)) $$ Hs'
  have hN : ∀ h : S1000x128.Gathers 0 S608x128, ∑ j, ((rV).slice (S608x128.rowRect h.axis' j) (S608x128.stride_rowRect h.axis' j)).view.dmaCredit
      = (rV).view.dmaCredit := by decide +kernel
  iapply (SparseCore.wp_indirectGatherLocal countersEmb 𝒱₀ (V d (cV L) (jV L)) none (hg := gathers_S1000x128_S608x128) (default : HIx 1)
      (rV).view.dmaCredit (hN _) (by decide) (landed_inb L (xs d) hxs fs)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (ℓ := xLoc d) (q := xq (wL L)) (f := tv d) (S := Finset.univ) (Finset.subset_univ (xAllK).view.set)).2 $$ [Hxs Hxr]
  · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  have hpay : ∀ j, tile_body.sl.dma0_1 xs tv d L hxs fs fr j = rowsOf (tv d) (xs d) ((oRowK L).view.emb j) :=
    fun j => landed_rows L (tv d) (xs d) fs fr _ _ j
  isplitl [Hi' Hx' Ho']
  · isplitl [Hi']; · iapply (Entails.of_eq (pts_iRowK (F := F) d L _)); iexact Hi'
    isplitl [Hx']; · iexact Hx'
    iapply (Entails.of_eq (oPts_of_landed (F := F) d L (tv d) (xs d) (ov d) _ hpay))
    iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The task as the call asks it -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_k (coordsV c s)
          iV (Memref.isWhole_whole _) xV (Memref.isWhole_whole _) oV (Memref.isWhole_whole _)
          sV (Memref.isWhole_whole _) rV (Memref.isWhole_whole _) cc0_scratch2 cc0_scoped0 cc0_scoped1) ⟨⟩ c s := rfl

omit [FloatOps F] in
/-- A task's waits, all on its own copies, are among those a call's task may record. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets what its hand-shake asks. -/
theorem tileObl (hF : (K (F := F)).Facts) (hxs : ∀ d, InTable (xs d)) : (K (F := F)).TileObl (D (F := F)) 𝒱 (P xs tv ov) v₀ 0 := by
  intro d c i O W hO _ _
  simp only [show (P (F := F) xs tv ov).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body xs tv ov d (coordsV ⟨_, hci.1⟩ ⟨_, hci.2⟩) hF (hxs d) O W hO).trans (wp_mono frame _ _ fun _ => waits_weaken)

end Tile

/-! ## The parts make the whole -/

/-- A core's hand-over is its tasks' parts, as it stands. -/
theorem vecSplit : (K (F := F)).VecSplit' (P xs tv ov) 0 := by
  intro d c
  show (bigSep Finset.univ fun i : Fin 16 => takes xs tv ov d (wOf (Fin.cast nCore_zero c) i)) ⊢ |={Set.univ}=> iprop(
      (bigSep Finset.univ fun i : Fin ((K (F := F)).nSub 0) => takes xs tv ov d (wOf (Fin.cast nCore_zero c) (Fin.cast nSub_zero i)))
      ∗ ((bigSep Finset.univ fun i : Fin ((K (F := F)).nSub 0) => brings xs tv d (wOf (Fin.cast nCore_zero c) (Fin.cast nSub_zero i)))
          -∗ bigSep Finset.univ fun i : Fin 16 => brings xs tv d (wOf (Fin.cast nCore_zero c) i)))
  iintro H; imodintro
  isplitl [H]; · iexact H
  iintro H; iexact H

omit [FloatOps F] in
theorem iSet_eq (w : Fin 32) : iSet w = (ipart w).set := by
  show ((View.whole (main_v2_scv : Ref sig .scVector)).slice (ipart w)).set = _
  rw [View.set_slice]; exact Finset.map_refl
omit [FloatOps F] in
theorem oSet_eq (w : Fin 32) : oSet w = (opart w).set := by
  show ((View.whole (main_v3_scv : Ref sig .scVector)).slice (opart w)).set = _
  rw [View.set_slice]; exact Finset.map_refl

omit [FloatOps F] in
/-- The list is its thirty-two parts. -/
theorem list_parts (d : Dev nD) (f : S19456.Idx → BitVec 32) :
    (iLoc d ↦{fullShare} (f : Buf (Elt F) (iLoc d)) : sProp 𝕄) = bigSep Finset.univ fun w : Fin 32 => iLoc d ↦[iSet w]{fullShare} (f : Buf (Elt F) (iLoc d)) := by
  rw [← pointsTo_biUnion Finset.univ (ℓ := iLoc d) iSet fun w _ w' _ h => by rw [iSet_eq, iSet_eq]; exact Rect.part_disjoint idiv h,
    show (Finset.univ : Finset (Fin 32)).biUnion iSet = Finset.univ from (Finset.biUnion_congr rfl fun w _ => iSet_eq w).trans (Rect.biUnion_part idiv)]
omit [FloatOps F] in
/-- The result is its thirty-two parts. -/
theorem result_parts (d : Dev nD) (f : S19456x128.Idx → Elt F .f32) :
    (oLoc d ↦{fullShare} (f : Buf (Elt F) (oLoc d)) : sProp 𝕄) = bigSep Finset.univ fun w : Fin 32 => iprop(oPts d w f) := by
  rw [← pointsTo_biUnion Finset.univ (ℓ := oLoc d) oSet fun w _ w' _ h => by rw [oSet_eq, oSet_eq]; exact Rect.part_disjoint odiv h,
    show (Finset.univ : Finset (Fin 32)).biUnion oSet = Finset.univ from (Finset.biUnion_congr rfl fun w _ => oSet_eq w).trans (Rect.biUnion_part odiv)]

/-- Cores and subcores number the tasks. -/
def wEquiv : Fin 2 × Fin 16 ≃ Fin 32 where
  toFun p := wOf p.1 p.2
  invFun w := (⟨w.val % 2, by omega⟩, ⟨w.val / 2, by omega⟩)
  left_inv p := by
    obtain ⟨c, i⟩ := p
    have hc := c.isLt
    refine Prod.ext (Fin.ext ?_) (Fin.ext ?_) <;> simp only [wOf] <;> omega
  right_inv w := Fin.ext (by simp only [wOf]; omega)

omit [FloatOps F] in
/-- What is held core by core and subcore by subcore is held task by task. -/
theorem bigSep_tasks (Φ : Fin 32 → sProp 𝕄) :
    (bigSep Finset.univ fun c : Fin 2 => bigSep Finset.univ fun i : Fin 16 => Φ (wOf c i)) = bigSep Finset.univ Φ := by
  rw [bigSep_univ_equiv wEquiv Φ, bigSep_univ_prod]; rfl

omit [FloatOps F] in
/-- The list, the table and the result held whole are held part by part. -/
theorem whole_parts (d : Dev nD) (f : S19456x128.Idx → Elt F .f32) :
    (bigSep Finset.univ fun w : Fin 32 => iprop(iPts (F := F) xs d w ∗ xPts tv d w ∗ oPts d w f) : sProp 𝕄)
      = iprop((iLoc d ↦{fullShare} (xs d : Buf (Elt F) (iLoc d))) ∗ (xLoc d ↦{fullShare} (tv d : Buf (Elt F) (xLoc d))) ∗ oLoc d ↦{fullShare} (f : Buf (Elt F) (oLoc d))) := by
  rw [bigSep_sep', bigSep_sep', list_parts, result_parts, pointsTo_piecesOf (ℓ := xLoc d) Finset.univ (tv d) (o := 32) (by decide) fullShare]

/-- What the call takes, from the list, the table and the result held whole. -/
theorem st_eq (d : Dev nD) : (bigSep Finset.univ fun c : Fin ((K (F := F)).nCore 0) => (P xs tv ov).st 0 d c)
    = iprop((iLoc d ↦{fullShare} (xs d : Buf (Elt F) (iLoc d))) ∗ (xLoc d ↦{fullShare} (tv d : Buf (Elt F) (xLoc d))) ∗ oLoc d ↦{fullShare} (ov d : Buf (Elt F) (oLoc d))) := by
  rw [← whole_parts, ← bigSep_tasks]; rfl

/-- What the call brings back: the list and the table as they were, the result the lookup's rows. -/
theorem dn_eq (d : Dev nD) : (bigSep Finset.univ fun c : Fin ((K (F := F)).nCore 0) => (P xs tv ov).dn 0 d c)
    = iprop((iLoc d ↦{fullShare} (xs d : Buf (Elt F) (iLoc d))) ∗ (xLoc d ↦{fullShare} (tv d : Buf (Elt F) (xLoc d)))
        ∗ oLoc d ↦{fullShare} (rowsOf (tv d) (xs d) : Buf (Elt F) (oLoc d))) := by
  rw [← whole_parts, ← bigSep_tasks]; rfl

end Cert.Proof.Gather

end
-- ==== Proof.Lstm.lean ====
/-
  The LSTM with its output projection, on the TensorCore.

  A grid of twenty steps. The state, hidden `h` and cell `c`, stays in two scratch buffers from one step to the next;
  step 0 first zeroes both. Step `t` reads its input (the image features at step 0, afterwards the embedded word of
  position `t - 1`), computes the new state, and writes the block of scores of position `t`.

  The body is run once, at a symbolic step and symbolic buffers (`body_run`); the values are those of `stepC`, `stepH`
  and `scores`. The state before step `n` is `state n`, by recursion.
-/
module

public import proofs.«01_k».proof.Proof.Setup
public import Idealize.ShloMosaic.Lib.Pipeline.RegionArraysS
public import Idealize.ShloMosaic.Lib.VecWindow
public import Idealize.ShloMosaic.Lib.Pipeline.FrameBody
public import Idealize.ShloMosaic.Lib.Pipeline.ValueKit

@[expose] public section

noncomputable section

namespace Cert.Proof.Lstm

open Cert.KernelIdeal Cert.KernelIdeal.Gen Cert.Proof

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## A whole load and a whole store -/

section Steps

variable (c : Dev nD) {cs : CoreSpace} {s : Shape} {e : EltTy} (M : Memref sig .tc cs s e) (E : Set ℕ)

/-- A load of all of a memref that reads `x` continues at `x`. -/
theorem load_all (x : s.Idx → Elt F e) {off : Fin s.rank → ℕ} {inb : ∀ a, off a + s.size a ≤ s.size a}
    {hl : M.view.LoadsAt (Rect.unit off s.size inb).toLoadRect} (Q : (s.Idx → Elt F e) → sProp 𝕄) :
    (owns (c : Thread nD τ) M fullShare x : sProp 𝕄)
      ⊢ iprop((owns (c : Thread nD τ) M fullShare x -∗ Q x)
        -∗ wp frame (wpE (defs₀ (F := F)) Variants.none (c : Thread nD τ) none) E (Prog.lift (.load M (Rect.unit off s.size inb).toLoadRect hl)) Q) := by
  unfold owns
  iintro ⟨%f, %hf, H⟩ Hk
  iapply (wp_load (defs := defs₀ (F := F)) Variants.none (c : Thread nD τ) none E (m := M) (r := (Rect.unit off s.size inb).toLoadRect)
    (hl := hl) (S := M.view.set) (q := fullShare) (f := f) (M.view.setOn_subset_set _)) $$ H
  iintro H
  rw [View.readAt_full, hf, wp_ret]
  imodintro
  iapply Hk
  iexists f
  isplitr; · ipureintro; exact hf
  iexact H

/-- An unmasked store of `w` over all of a memref leaves it reading `w`. -/
theorem store_all (x w : s.Idx → Elt F e) {off : Fin s.rank → ℕ} {inb : ∀ a, off a + s.size a ≤ s.size a}
    {hx : (M.access (Rect.unit off s.size inb)).Stores Finset.univ}
    {hm : (Finset.univ : Finset (Rect.unit off s.size inb).shape.Idx) = Finset.univ ∨ ∀ a, (Rect.unit off s.size inb).stride a = 1} (Q : PUnit → sProp 𝕄) :
    (owns (c : Thread nD τ) M fullShare x : sProp 𝕄)
      ⊢ iprop((owns (c : Thread nD τ) M fullShare w -∗ Q ⟨⟩)
        -∗ wp frame (wpE (defs₀ (F := F)) Variants.none (c : Thread nD τ) none) E (Prog.lift (.store M (Rect.unit off s.size inb) w Finset.univ hx hm)) Q) := by
  unfold owns
  iintro ⟨%f, -, H⟩ Hk
  iapply (wp_store (defs := defs₀ (F := F)) Variants.none (c : Thread nD τ) none E (m := M) (r := Rect.unit off s.size inb)
    (w := w) (Mk := Finset.univ) (hx := hx) (hm := hm) (S := M.view.set) (f := f) (M.view.set_slice_subset _)) $$ H
  iintro H
  rw [wp_ret]
  imodintro
  iapply Hk
  iexists _
  isplitr; swap; · iexact H
  ipureintro
  exact View.read_writes_full M.view f inb w []

end Steps

/-! ## One step -/

/-- The hidden state a step starts from: zero at step 0, what the last step left otherwise. -/
def startH (i : grid1.Coords) (h : Vec F S256x1024 .f32) : Vec F S256x1024 .f32 := if (i 0).val = 0 then k1_pay3 else h
/-- The cell state a step starts from. -/
def startC (i : grid1.Coords) (c : Vec F S256x1024 .f32) : Vec F S256x1024 .f32 := if (i 0).val = 0 then k1_pay4 else c

/-- The weights and the features, as a step reads them. -/
structure Weights (F : FTy → Type) [FloatOps F] where
  feat : Vec F S1024x128 .f32
  wih : Vec F S1024x128 .f32
  whh : Vec F S1024x256 .f32
  bias : Vec F S1024x1 .f32
  wout : Vec F S1000x256 .f32
  bout : Vec F S1000x1 .f32

variable (w : Weights F)

/-- The cell state a step leaves. -/
def stepC (i : grid1.Coords) (x : Vec F S1x1024x128 .f32) (h c : Vec F S256x1024 .f32) : Vec F S256x1024 .f32 :=
  k1_pay8 i w.feat x (startH i h) w.wih w.whh w.bias (startC i c)
/-- The hidden state a step computes, as the scores read it. -/
def stepH' (i : grid1.Coords) (x : Vec F S1x1024x128 .f32) (h c : Vec F S256x1024 .f32) : Vec F S256x1024 .f32 :=
  k1_pay7 i w.feat x (startH i h) w.wih w.whh w.bias (startC i c)
/-- The hidden state a step leaves. -/
def stepH (i : grid1.Coords) (x : Vec F S1x1024x128 .f32) (h c : Vec F S256x1024 .f32) : Vec F S256x1024 .f32 :=
  k1_pay1 (stepH' w i x h c)
/-- The scores a step writes. -/
def scores (i : grid1.Coords) (x : Vec F S1x1024x128 .f32) (h c : Vec F S256x1024 .f32) : Vec F S1x1000x1024 .f32 :=
  k1_pay2 (stepH' w i x h c) w.wout w.bout

/-- The condition of the body's branch holds at step 0 alone. -/
theorem first_iff (i : grid1.Coords) :
    Scalar.cmpi .ne (Scalar.extui (Scalar.cmpi .eq (BitVec.ofNat 32 (i 0).val) 0#32) : BitVec 32) 0#32 = 1#1 ↔ (i 0).val = 0 := by
  have h : ∀ n < 20, (Scalar.cmpi .ne (Scalar.extui (Scalar.cmpi .eq (BitVec.ofNat 32 n) 0#32) : BitVec 32) 0#32 = 1#1 ↔ n = 0) := by decide
  exact h _ (i 0).isLt

set_option maxHeartbeats 1000000 in
/-- The body at a symbolic step and symbolic buffers: the inputs stay, the scratch buffers are left at the new state and
    the result's buffer at the step's scores. -/
theorem body_run (d : Dev nD) (E : Set ℕ) (i : grid1.Coords)
    (M1 : Memref sig .tc .vmem S1024x128 .f32) (h1 : M1.IsWhole) (M2 : Memref sig .tc .vmem S1x1024x128 .f32) (h2 : M2.IsWhole)
    (M3 : Memref sig .tc .vmem S1024x128 .f32) (h3 : M3.IsWhole) (M4 : Memref sig .tc .vmem S1024x256 .f32) (h4 : M4.IsWhole)
    (M5 : Memref sig .tc .vmem S1024x1 .f32) (h5 : M5.IsWhole) (M6 : Memref sig .tc .vmem S1000x256 .f32) (h6 : M6.IsWhole)
    (M7 : Memref sig .tc .vmem S1000x1 .f32) (h7 : M7.IsWhole) (M8 : Memref sig .tc .vmem S1x1000x1024 .f32) (h8 : M8.IsWhole)
    (M9 : Memref sig .tc .vmem S256x1024 .f32) (h9 : M9.IsWhole) (M10 : Memref sig .tc .vmem S256x1024 .f32) (h10 : M10.IsWhole)
    (x : Vec F S1x1024x128 .f32) (y : Vec F S1x1000x1024 .f32) (h c : Vec F S256x1024 .f32) (Q : PUnit → sProp 𝕄) :
    iprop(owns (d : Thread nD τ) M1 fullShare w.feat ∗ owns (d : Thread nD τ) M2 fullShare x ∗ owns (d : Thread nD τ) M3 fullShare w.wih
        ∗ owns (d : Thread nD τ) M4 fullShare w.whh ∗ owns (d : Thread nD τ) M5 fullShare w.bias ∗ owns (d : Thread nD τ) M6 fullShare w.wout
        ∗ owns (d : Thread nD τ) M7 fullShare w.bout ∗ owns (d : Thread nD τ) M8 fullShare y ∗ owns (d : Thread nD τ) M9 fullShare h
        ∗ owns (d : Thread nD τ) M10 fullShare c
        ∗ (iprop(owns (d : Thread nD τ) M1 fullShare w.feat ∗ owns (d : Thread nD τ) M2 fullShare x ∗ owns (d : Thread nD τ) M3 fullShare w.wih
            ∗ owns (d : Thread nD τ) M4 fullShare w.whh ∗ owns (d : Thread nD τ) M5 fullShare w.bias ∗ owns (d : Thread nD τ) M6 fullShare w.wout
            ∗ owns (d : Thread nD τ) M7 fullShare w.bout ∗ owns (d : Thread nD τ) M8 fullShare (scores w i x h c)
            ∗ owns (d : Thread nD τ) M9 fullShare (stepH w i x h c) ∗ owns (d : Thread nD τ) M10 fullShare (stepC w i x h c)) -∗ Q ⟨⟩))
      ⊢ wp frame (wpE (defs₀ (F := F)) Variants.none (d : Thread nD τ) none) E
          (cc1__lstm_proj_body i M1 h1 M2 h2 M3 h3 M4 h4 M5 h5 M6 h6 M7 h7 M8 h8 M9 h9 M10 h10) Q := by
  rw [cc1__lstm_proj_body_eq_skeleton]
  unfold cc1__lstm_proj_body_skel
  rw [k1_part1_eq_skeleton]
  unfold k1_part1_skel
  iintro ⟨H1, H2, H3, H4, H5, H6, H7, H8, H9, H10, Hk⟩
  -- the branch: at step 0 the scratch buffers are zeroed, at any other step they stay
  by_cases h0 : (i 0).val = 0
  on_goal 1 =>
    simp only [scores, stepH, stepH', stepC, startH, startC, if_pos h0, wp_bind]
    rw [dif_pos ((first_iff i).2 h0)]
    simp only [wp_bind]
    iapply (load_all d M9 E h _) $$ H9; iintro H9
    iapply (store_all d M9 E h _ _) $$ H9; iintro H9
    iapply (load_all d M10 E c _) $$ H10; iintro H10
    iapply (store_all d M10 E c _ _) $$ H10; iintro H10
  on_goal 2 =>
    simp only [scores, stepH, stepH', stepC, startH, startC, if_neg h0, wp_bind]
    rw [dif_neg (fun hc => h0 ((first_iff i).1 hc))]
    simp only [wp_bind]
  all_goals
    iapply (load_all d M1 E _ _) $$ H1; iintro H1
    iapply (load_all d M2 E _ _) $$ H2; iintro H2
    iapply (load_all d M9 E _ _) $$ H9; iintro H9
    iapply (load_all d M3 E _ _) $$ H3; iintro H3
    iapply (load_all d M4 E _ _) $$ H4; iintro H4
    iapply (load_all d M5 E _ _) $$ H5; iintro H5
    iapply (load_all d M10 E _ _) $$ H10; iintro H10
    iapply (load_all d M10 E _ _) $$ H10; iintro H10
    rw [wp_pure]; imodintro
    iapply (store_all d M10 E _ _ _) $$ H10; iintro H10
    iapply (load_all d M9 E _ _) $$ H9; iintro H9
    iapply (store_all d M9 E _ _ _) $$ H9; iintro H9
    iapply (load_all d M6 E _ _) $$ H6; iintro H6
    iapply (load_all d M7 E _ _) $$ H7; iintro H7
    iapply (load_all d M8 E _ _) $$ H8; iintro H8
    iapply (store_all d M8 E _ _ _) $$ H8; iintro H8
    rw [wp_pure]; imodintro
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-! ## The region's data -/

/-- A buffer of the TensorCore's, named over every processor's buffers. -/
abbrev rf (b : Ref sig .tc) : DevRef τ sig := Proc.devRef .tc b

/-- The weights and the features a valuation of the buffers holds. -/
def wsOf (W : Valuation τ sig (Elt F)) : Weights F :=
  ⟨W (rf main_arg0), W (rf main_arg3), W (rf main_arg4), W (rf main_v6), W (rf main_arg7), W (rf main_v7)⟩

/-- The embedded words that step `t` reads: a block of the looked-up rows. -/
def embAt (v4 : S19x1024x128.Idx → Elt F .f32) (t : Fin cfg1.N) : Vec F S1x1024x128 .f32 := (win1_1.blk t).view.read (Elt F) v4

/-- The hidden and the cell state before step `n`, from the embedded words `v4`. -/
def state (v4 : S19x1024x128.Idx → Elt F .f32) : ℕ → Vec F S256x1024 .f32 × Vec F S256x1024 .f32
  | 0 => (k1_pay3, k1_pay4)
  | n + 1 => if h : n < cfg1.N then
      (stepH w (grid1.coords ⟨n, h⟩) (embAt v4 ⟨n, h⟩) (state v4 n).1 (state v4 n).2,
        stepC w (grid1.coords ⟨n, h⟩) (embAt v4 ⟨n, h⟩) (state v4 n).1 (state v4 n).2)
    else state v4 n

/-- The block of scores step `t` writes. -/
def scoresAt (v4 : S19x1024x128.Idx → Elt F .f32) (t : Fin cfg1.N) : Vec F S1x1000x1024 .f32 :=
  scores w (grid1.coords t) (embAt v4 t) (state w v4 t.val).1 (state w v4 t.val).2

theorem state_succ (v4 : S19x1024x128.Idx → Elt F .f32) (t : Fin cfg1.N) :
    state w v4 (t.val + 1) = (stepH w (grid1.coords t) (embAt v4 t) (state w v4 t.val).1 (state w v4 t.val).2,
      stepC w (grid1.coords t) (embAt v4 t) (state w v4 t.val).1 (state w v4 t.val).2) := dif_pos t.isLt

/-- Step `t`'s only coordinate is `t`. -/
theorem coord_eq (t : Fin cfg1.N) : (grid1.coords t 0).val = t.val := by
  have : ∀ t : Fin grid1.N, (grid1.coords t 0).val = t.val := by decide
  exact this t

/-- The two scratch buffers between the steps: before step 0 at anything, before step `n` at the state. -/
def scratch (v4 : S19x1024x128.Idx → Elt F .f32) (d : Dev nD) : ℕ → sProp 𝕄
  | 0 => Pipeline.scopedRest spec1 d
  | n + 1 => iprop(owns (d : Thread nD τ) (Memref.whole cc1_scratch0) fullShare (state w v4 (n + 1)).1
      ∗ owns (d : Thread nD τ) (Memref.whole cc1_scratch1) fullShare (state w v4 (n + 1)).2)

/-- The region's proof data at a valuation of the buffers: the arrays at it, each input's buffer at its block, the
    result's at the step's scores, the scratch buffers at the state. -/
def dat (W : Dev nD → Valuation τ sig (Elt F)) (d : Dev nD) : Dat τ (Elt F) (HIx 1) ℕ UU ℕ cfg1 d where
  A k := W d (rf (Pipeline.arrRef spec1 k))
  after k t := match k with
    | ⟨0, _⟩ => (wsOf (W d)).feat
    | ⟨1, _⟩ => embAt (W d (rf main_v4)) t
    | ⟨2, _⟩ => (wsOf (W d)).wih
    | ⟨3, _⟩ => (wsOf (W d)).whh
    | ⟨4, _⟩ => (wsOf (W d)).bias
    | ⟨5, _⟩ => (wsOf (W d)).wout
    | ⟨6, _⟩ => (wsOf (W d)).bout
    | ⟨7, _⟩ => scoresAt (wsOf (W d)) (W d (rf main_v4)) t
  Φ t := scratch (wsOf (W d)) (W d (rf main_v4)) d t.val
  q _ := fullShare
  owed _ := 0

/-! The block of a window over a whole array is the array, and its buffer holds that at every step. -/

theorem blk0 (t : Fin cfg1.N) (X : S1024x128.Idx → Elt F .f32) : (win1_0.blk t).view.read (Elt F) X = X := by
  funext y
  blk_ext [show win1_0.index t 0 = 0 from rfl, show win1_0.index t 1 = 0 from rfl]

theorem blk2 (t : Fin cfg1.N) (X : S1024x128.Idx → Elt F .f32) : (win1_2.blk t).view.read (Elt F) X = X := by
  funext y
  blk_ext [show win1_2.index t 0 = 0 from rfl, show win1_2.index t 1 = 0 from rfl]

theorem blk3 (t : Fin cfg1.N) (X : S1024x256.Idx → Elt F .f32) : (win1_3.blk t).view.read (Elt F) X = X := by
  funext y
  blk_ext [show win1_3.index t 0 = 0 from rfl, show win1_3.index t 1 = 0 from rfl]

theorem blk4 (t : Fin cfg1.N) (X : S1024x1.Idx → Elt F .f32) : (win1_4.blk t).view.read (Elt F) X = X := by
  funext y
  blk_ext [show win1_4.index t 0 = 0 from rfl, show win1_4.index t 1 = 0 from rfl]

theorem blk5 (t : Fin cfg1.N) (X : S1000x256.Idx → Elt F .f32) : (win1_5.blk t).view.read (Elt F) X = X := by
  funext y
  blk_ext [show win1_5.index t 0 = 0 from rfl, show win1_5.index t 1 = 0 from rfl]

theorem blk6 (t : Fin cfg1.N) (X : S1000x1.Idx → Elt F .f32) : (win1_6.blk t).view.read (Elt F) X = X := by
  funext y
  blk_ext [show win1_6.index t 0 = 0 from rfl, show win1_6.index t 1 = 0 from rfl]

variable (W : Dev nD → Valuation τ sig (Elt F)) (d : Dev nD) (t : Fin cfg1.N)

theorem before0 (z : (cfg1.win 0).block.Idx → Elt F (cfg1.win 0).elt) : (dat W d).before 0 t z = (wsOf (W d)).feat :=
  ((dat W d).before_in_eq_fetched 0 rfl (fun _ => rfl) (fun _ _ _ => rfl) (fun t => (blk0 t (W d (rf main_arg0))).symm) t z).trans
    (blk0 t (W d (rf main_arg0)))

theorem before2 (z : (cfg1.win 2).block.Idx → Elt F (cfg1.win 2).elt) : (dat W d).before 2 t z = (wsOf (W d)).wih :=
  ((dat W d).before_in_eq_fetched 2 rfl (fun _ => rfl) (fun _ _ _ => rfl) (fun t => (blk2 t (W d (rf main_arg3))).symm) t z).trans
    (blk2 t (W d (rf main_arg3)))

theorem before3 (z : (cfg1.win 3).block.Idx → Elt F (cfg1.win 3).elt) : (dat W d).before 3 t z = (wsOf (W d)).whh :=
  ((dat W d).before_in_eq_fetched 3 rfl (fun _ => rfl) (fun _ _ _ => rfl) (fun t => (blk3 t (W d (rf main_arg4))).symm) t z).trans
    (blk3 t (W d (rf main_arg4)))

theorem before4 (z : (cfg1.win 4).block.Idx → Elt F (cfg1.win 4).elt) : (dat W d).before 4 t z = (wsOf (W d)).bias :=
  ((dat W d).before_in_eq_fetched 4 rfl (fun _ => rfl) (fun _ _ _ => rfl) (fun t => (blk4 t (W d (rf main_v6))).symm) t z).trans
    (blk4 t (W d (rf main_v6)))

theorem before5 (z : (cfg1.win 5).block.Idx → Elt F (cfg1.win 5).elt) : (dat W d).before 5 t z = (wsOf (W d)).wout :=
  ((dat W d).before_in_eq_fetched 5 rfl (fun _ => rfl) (fun _ _ _ => rfl) (fun t => (blk5 t (W d (rf main_arg7))).symm) t z).trans
    (blk5 t (W d (rf main_arg7)))

theorem before6 (z : (cfg1.win 6).block.Idx → Elt F (cfg1.win 6).elt) : (dat W d).before 6 t z = (wsOf (W d)).bout :=
  ((dat W d).before_in_eq_fetched 6 rfl (fun _ => rfl) (fun _ _ _ => rfl) (fun t => (blk6 t (W d (rf main_v7))).symm) t z).trans
    (blk6 t (W d (rf main_v7)))

theorem before1 (z : (cfg1.win 1).block.Idx → Elt F (cfg1.win 1).elt) : (dat W d).before 1 t z = embAt (W d (rf main_v4)) t :=
  (dat W d).before_in_eq_fetched 1 rfl (fun _ => rfl) (fun _ _ _ => rfl) (fun _ => rfl) t z

/-- At step 0 the state it starts from does not matter. -/
theorem start_irrel {i : grid1.Coords} (h0 : (i 0).val = 0) (w : Weights F) (x : Vec F S1x1024x128 .f32) (h c h' c' : Vec F S256x1024 .f32) :
    stepH w i x h c = stepH w i x h' c' ∧ stepC w i x h c = stepC w i x h' c' ∧ scores w i x h c = scores w i x h' c' := by
  simp only [scores, stepH, stepH', stepC, startH, startC, if_pos h0, and_self]

/-- Before a step the scratch buffers hold some state from which the step goes as from `state`. -/
theorem scratch_open (w : Weights F) (v4 : S19x1024x128.Idx → Elt F .f32) :
    scratch w v4 d t.val ⊢ iprop(∃ h c, ⌜stepH w (grid1.coords t) (embAt v4 t) h c = (state w v4 (t.val + 1)).1
        ∧ stepC w (grid1.coords t) (embAt v4 t) h c = (state w v4 (t.val + 1)).2
        ∧ scores w (grid1.coords t) (embAt v4 t) h c = scoresAt w v4 t⌝
      ∗ owns (d : Thread nD τ) (Memref.whole cc1_scratch0) fullShare h ∗ owns (d : Thread nD τ) (Memref.whole cc1_scratch1) fullShare c) := by
  rw [state_succ]
  unfold scoresAt
  rcases hn : t.val with _ | n
  · unfold scratch
    rw [scopedRest1_eq]
    iintro ⟨⟨%f, Hf⟩, ⟨%g, Hg⟩⟩
    iexists f, g
    isplitr
    · ipureintro
      exact start_irrel ((coord_eq t).trans hn) w _ _ _ _ _
    isplitl [Hf]
    · rw [owns_whole]; iexact Hf
    · rw [owns_whole]; iexact Hg
  · unfold scratch
    iintro ⟨Hf, Hg⟩
    iexists _, _
    isplitr; swap
    · isplitl [Hf] <;> iassumption
    ipureintro
    exact ⟨rfl, rfl, rfl⟩

set_option maxHeartbeats 1000000 in
/-- One step of the region: the body run at step `t`, between its staging buffers as the pipeline hands them over and takes
    them back. -/
theorem body_obligation : BodyObligation (dat W d) (defs₀ (F := F)) Variants.none none Set.univ := fun t => by
  rw [bigSep_W1, bigSep_W1]
  rw [show (dat W d).Φ t.castSucc = scratch (wsOf (W d)) (W d (rf main_v4)) d t.val from rfl,
    show (dat W d).Φ t.succ = scratch (wsOf (W d)) (W d (rf main_v4)) d (t.val + 1) from rfl,
    show (dat W d).owesAt none t.succ = (dat W d).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0, before1, before2, before3, before4, before5, before6]
  ihave Hs := (scratch_open d t (wsOf (W d)) (W d (rf main_v4))) $$ HΦ
  icases Hs with ⟨%h, %c, %hst, H8, H9⟩
  obtain ⟨hh, hc, hsc⟩ := hst
  iapply (body_run (wsOf (W d)) d Set.univ (grid1.coords t) (win1_0.stage (cfg1.slots t 0)) (hstage1_0 ((cfg1.slots t 0).cast nbuf1_0))
    (win1_1.stage (cfg1.slots t 1)) (hstage1_1 ((cfg1.slots t 1).cast nbuf1_1)) (win1_2.stage (cfg1.slots t 2)) (hstage1_2 ((cfg1.slots t 2).cast nbuf1_2))
    (win1_3.stage (cfg1.slots t 3)) (hstage1_3 ((cfg1.slots t 3).cast nbuf1_3)) (win1_4.stage (cfg1.slots t 4)) (hstage1_4 ((cfg1.slots t 4).cast nbuf1_4))
    (win1_5.stage (cfg1.slots t 5)) (hstage1_5 ((cfg1.slots t 5).cast nbuf1_5)) (win1_6.stage (cfg1.slots t 6)) (hstage1_6 ((cfg1.slots t 6).cast nbuf1_6))
    (win1_7.stage (cfg1.slots t 7)) (hstage1_7 ((cfg1.slots t 7).cast nbuf1_7)) (Memref.whole cc1_scratch0) (Memref.isWhole_whole _)
    (Memref.whole cc1_scratch1) (Memref.isWhole_whole _) (embAt (W d (rf main_v4)) t) ((dat W d).before 7 t d7) h c _)
  rw [hh, hc, hsc]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [H8 H9]
  · unfold scratch; isplitl [H8]; · iexact H8
    iexact H9
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The region over the buffers of the TensorCore -/

/-- The proof data of the program's one region. -/
def pdats (p : Fin 1) (d : Dev nD) : Dat τ (Elt F) (HIx 1) ℕ UU ℕ (Pipeline.pin (pcfgs (F := F)) (fun q => (cfgs q).toPCfg_adm) p) d :=
  match p with
  | ⟨0, _⟩ => dat W d

theorem cut : Pipeline.LevelCut (pcfgs (F := F)) (fun q => (cfgs q).toPCfg_adm) none (K (F := F)).L (K (F := F)).lev 0
    (fun _ : Dev nD => (0 : CellTallies nD τ sig (HIx 1))) (fun _ => 0) where
  hι _ _ _ := Finset.mem_univ _
  hιb _ _ _ := le_rfl
  hD _ _ _ h := absurd h (lt_irrefl 0)

/-- Before step 0 the scratch buffers are the region's own, at anything; -/
theorem scratch_in : iprop(Pipeline.scopedRest (Pipeline.pin (pcfgs (F := F)) (fun q => (cfgs q).toPCfg_adm) 0).spec d ∗ emp) ⊢ (pdats W 0 d).Φ 0 := by
  show iprop(Pipeline.scopedRest spec1 d ∗ emp) ⊢ (Pipeline.scopedRest spec1 d : sProp 𝕄)
  iintro ⟨H, -⟩
  iexact H

/-- and after the last step they are given back. -/
theorem scratch_out : (pdats W 0 d).Φ (Fin.last (Pipeline.pin (pcfgs (F := F)) (fun q => (cfgs q).toPCfg_adm) 0).N)
    ⊢ iprop(Pipeline.scopedRest (Pipeline.pin (pcfgs (F := F)) (fun q => (cfgs q).toPCfg_adm) 0).spec d ∗ emp) := by
  show iprop(owns (d : Thread nD τ) (Memref.whole cc1_scratch0) fullShare (state (wsOf (W d)) (W d (rf main_v4)) 20).1
      ∗ owns (d : Thread nD τ) (Memref.whole cc1_scratch1) fullShare (state (wsOf (W d)) (W d (rf main_v4)) 20).2)
    ⊢ iprop(Pipeline.scopedRest spec1 d ∗ emp)
  rw [scopedRest1_eq, owns_whole, owns_whole]
  iintro ⟨Hf, Hg⟩
  isplitl
  · isplitl [Hf]
    · iexists _; iexact Hf
    · iexists _; iexact Hg
  iempintro

/-- The region, from the unscoped buffers at a valuation to the same with the result's array written. -/
def reg : Pipeline.RegionSeg (pcfgs (F := F)) (fun q => (cfgs q).toPCfg_adm) (pdats W) none defs₀ 𝒱₀ (K (F := F)).L (K (F := F)).lev 0 :=
  Pipeline.RegionSeg.ofHeldIn (pcfgs (F := F)) (fun q => (cfgs q).toPCfg_adm) (pdats W) none defs₀ 𝒱₀ (K (F := F)).L (K (F := F)).lev 0
    (fun _ => 0) (Pipeline.ucRefs τ sig) (fun _ => iprop(emp)) (fun _ => iprop(emp)) launch1.toP rfl
    (fun d => (body_obligation W d).loose) (fun _ _ => rfl) (fun _ => rfl) (fun d => (pdats W 0 d).share_full fun _ => rfl)
    (fun d => scratch_in W d) (fun d => scratch_out W d) (fun _ => 0) cut (fun _ => iprop(emp)) W (fun _ _ => rfl)

/-- The buffers after the region. -/
abbrev after : Valuation τ sig (Elt F) := Pipeline.afterRegion (dat W d) (W d)

theorem arrays_unscoped : Pipeline.arrRefs (τ := τ) (pcfgs (F := F) 0).spec ⊆ Pipeline.ucRefs τ sig :=
  Pipeline.arrRefs_sub_ucRefs _ (show ∀ k : Fin 8, (Pipeline.arrRef spec1 k).isScoped = false by decide)

/-- The region is entered from the unscoped buffers at `W d`, the core owing nothing, -/
theorem reg_pre : iprop(StableHlo.held (d : Thread nD τ) (Pipeline.ucRefs τ sig) (W d)
    ∗ ((∃ Wd, owes (d : Thread nD τ) (0 : CellTallies nD τ sig (HIx 1)) Wd) ∗ emp ∗ emp)) ⊢ (reg W).pre d :=
  Pipeline.RegionSeg.ofHeldIn_pre (pcs := pcfgs (F := F)) (a := fun q => (cfgs q).toPCfg_adm) (pdats := pdats W) (D := fun _ => 0)
    (X := fun _ => iprop(emp)) (Y := fun _ => iprop(emp)) (R := fun _ => iprop(emp)) (W := W) arrays_unscoped d

/-- and left with them at `after W d`. -/
theorem reg_post : (reg W).post d ⊢ iprop(StableHlo.held (d : Thread nD τ) (Pipeline.ucRefs τ sig) (after W d)
    ∗ ((∃ Wd, owes (d : Thread nD τ) (0 : CellTallies nD τ sig (HIx 1)) Wd) ∗ emp ∗ emp)) :=
  Pipeline.RegionSeg.ofHeldIn_post arrays_unscoped d

/-- The region's call, among the program's other threads: from the unscoped buffers at `W d`, the TensorCore owing
    nothing, it goes on with them at `after W d`. -/
theorem region_run [∀ e, Nonempty (Elt F e)] (Q : PUnit → sProp 𝕄) :
    iprop(boundary (d : Thread nD τ) ∗ StableHlo.held (d : Thread nD τ) (Pipeline.ucRefs τ sig) (W d)
        ∗ (∃ Wd, owes (d : Thread nD τ) (0 : CellTallies nD τ sig (HIx 1)) Wd) ∗ levAts (K (F := F)).L (K (F := F)).lev
        ∗ Pipeline.cellsGhost (Pipeline.pin (pcfgs (F := F)) (fun q => (cfgs q).toPCfg_adm)) EP 0 d
        ∗ Pipeline.toksInit (Pipeline.pin (pcfgs (F := F)) (fun q => (cfgs q).toPCfg_adm)) EP 0 d
        ∗ (iprop(boundary (d : Thread nD τ) ∗ StableHlo.held (d : Thread nD τ) (Pipeline.ucRefs τ sig) (after W d)
            ∗ ∃ Wd, owes (d : Thread nD τ) (0 : CellTallies nD τ sig (HIx 1)) Wd) -∗ Q ⟨⟩))
      ⊢ wp frame (wpE ((K (F := F)).defs (D (F := F))) 𝒱 (SparseCore.T d) none) Set.univ
          (Prog.lift (.customCall (SparseCore.inner (Pipeline.entry 0)) ())) Q := by
  refine BIBase.Entails.trans ?_ ((K (F := F)).wp_liftProg (D (F := F)) 𝒱 (SparseCore.T d) Set.univ none
    (Prog.lift (.customCall (Pipeline.entry (0 : Fin 1)) ())) Q)
  iintro ⟨Hb, Hh, Ho, Hl, Hg, Ht, Hk⟩
  iapply (Pipeline.RegionSeg.wp (pcfgs (F := F)) (fun q => (cfgs q).toPCfg_adm) (pdats W) none (launch1.toP.cellOf_inj fun q => (cfgs q).toPCfg_adm) EP defs₀ 𝒱₀ (K (F := F)).L (K (F := F)).lev
    (reg W) d none (fun _ h => nomatch h) _ Q)
  isplitl [Hk]
  · iintro ⟨Hb, Hp⟩
    ihave Hp' := (reg_post W d) $$ Hp
    icases Hp' with ⟨Hh, Ho, -⟩
    rw [wp_ret]; imodintro
    iapply Hk
    isplitl [Hb]; · iexact Hb
    isplitl [Hh]; · iexact Hh
    iexact Ho
  isplitl [Hb]; · iexact Hb
  isplitl [Hh Ho]
  · iapply (reg_pre W d)
    isplitl [Hh]; · iexact Hh
    isplitl [Ho]; · iexact Ho
    isplitr <;> iempintro
  isplitl [Hl]; · iexact Hl
  isplitl [Hg]; · iexact Hg
  iexact Ht

end Cert.Proof.Lstm

end
-- ==== Proof.Main.lean ====
/-
  The whole program on the TensorCore's thread.

  Three host operations turn the captions into the index list, the SparseCore call looks the words up, four host
  operations lay the operands of the LSTM out, the grid of twenty steps runs, and a last transpose puts the batch first.
  The contents of all the buffers are followed from one operation to the next (`atCall`, `called`, `atRegion`, `final`);
  the run ends with every buffer at `final`.
-/
module

public import proofs.«01_k».proof.Proof.Gather
public import proofs.«01_k».proof.Proof.Lstm

@[expose] public section

noncomputable section

namespace Cert.Proof.Main

open Cert.KernelIdeal Cert.KernelIdeal.Facts Cert.KernelIdeal.Gen Cert.Proof
open Cert.Proof.Gather (rowsOf InTable iLoc xLoc oLoc)
open Cert.Proof.Lstm (rf)

open Idealize.ShloMosaic
open Idealize.ShloMosaic.TcCoe
open Idealize.ShloMosaic.SparseCore.Cfg (HIx)
open Idealize.ShloMosaic.StableHlo (held held_sub_split held_congr wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The host operations -/

abbrev opSlice : HloOp τ sig (Elt F) := StableHlo.unary main_arg1 main_v0 ((extractStridedSlice S1024x19 ![0, 0] · slices_S1024x20_S1024x19_0_0) : (⟨S1024x20, .i32⟩ : BufTy).Contents (Elt F) → (⟨S1024x19, .i32⟩ : BufTy).Contents (Elt F))
abbrev opTurn : HloOp τ sig (Elt F) := StableHlo.unary main_v0 main_v1 ((transpose S19x1024 [1, 0] · transposes_S1024x19_S19x1024_1_0) : (⟨S1024x19, .i32⟩ : BufTy).Contents (Elt F) → (⟨S19x1024, .i32⟩ : BufTy).Contents (Elt F))
abbrev opFlat : HloOp τ sig (Elt F) := StableHlo.reshape main_v1 main_v2 (rfl : (.i32 : EltTy) = .i32) shapeCasts_S19x1024_S19456
abbrev opEmb : HloOp τ sig (Elt F) := StableHlo.reshape main_v3 main_v4 (rfl : (.f32 : EltTy) = .f32) shapeCasts_S19456x128_S19x1024x128
abbrev opBias : HloOp τ sig (Elt F) := StableHlo.binary main_arg5 main_arg6 main_v5 (addf : (⟨S1024, .f32⟩ : BufTy).Contents (Elt F) → (⟨S1024, .f32⟩ : BufTy).Contents (Elt F) → (⟨S1024, .f32⟩ : BufTy).Contents (Elt F))
abbrev opBiasCol : HloOp τ sig (Elt F) := StableHlo.reshape main_v5 main_v6 (rfl : (.f32 : EltTy) = .f32) shapeCasts_S1024_S1024x1
abbrev opOutCol : HloOp τ sig (Elt F) := StableHlo.reshape main_arg8 main_v7 (rfl : (.f32 : EltTy) = .f32) shapeCasts_S1000_S1000x1
abbrev opBatch : HloOp τ sig (Elt F) := StableHlo.unary main_v8 main_v9 ((transpose S1024x20x1000 [2, 0, 1] · transposes_S20x1000x1024_S1024x20x1000_2_0_1) : (⟨S20x1000x1024, .f32⟩ : BufTy).Contents (Elt F) → (⟨S1024x20x1000, .f32⟩ : BufTy).Contents (Elt F))

/-! ## The buffers' contents, operation by operation -/

variable (m : (ℓ : Loc nD τ sig) → Buf (Elt F) ℓ) (ρ : Dev nD → PrngReg)

/-- The index list made of the captions: position by position, all but the last position. -/
def wordsOf (cap : S1024x20.Idx → BitVec 32) : S19456.Idx → BitVec 32 :=
  shapeCast S19456 (transpose S19x1024 [1, 0] (extractStridedSlice S1024x19 ![0, 0] cap slices_S1024x20_S1024x19_0_0)
    transposes_S1024x19_S19x1024_1_0) shapeCasts_S19x1024_S19456

/-- The buffers when the SparseCore call starts. -/
def atCall (d : Dev nD) : Valuation τ sig (Elt F) :=
  (opFlat (F := F)).result ((opTurn (F := F)).result ((opSlice (F := F)).result (StableHlo.launchContents m d)))
/-- The index list, the table and the result buffer then. -/
abbrev list (d : Dev nD) : S19456.Idx → BitVec 32 := atCall m d (rf main_v2)
abbrev table (d : Dev nD) : S1000x128.Idx → Elt F .f32 := atCall m d (rf main_arg2)
abbrev blank (d : Dev nD) : S19456x128.Idx → Elt F .f32 := atCall m d (rf main_v3)
/-- The buffers when the call has ended: its result holds the rows looked up. -/
def called (d : Dev nD) : Valuation τ sig (Elt F) := Function.update (atCall m d) (rf main_v3) (rowsOf (table m d) (list m d))
/-- The buffers when the LSTM starts. -/
def atRegion (d : Dev nD) : Valuation τ sig (Elt F) :=
  (opOutCol (F := F)).result ((opBiasCol (F := F)).result ((opBias (F := F)).result ((opEmb (F := F)).result (called m d))))
/-- The buffers when the program ends. -/
def final (d : Dev nD) : Valuation τ sig (Elt F) := (opBatch (F := F)).result (Lstm.after (atRegion m) d)

/-- A buffer that no host operation before the call writes is still what it was at launch. -/
theorem atCall_keeps (d : Dev nD) (r : Ref sig .tc) (h0 : r ≠ main_v0) (h1 : r ≠ main_v1) (h2 : r ≠ main_v2) :
    atCall m d (rf r) = m ((d : Thread nD τ).loc r) :=
  (StableHlo.reshape_result_ne _ _ _ _ _ _ _ h2).trans ((StableHlo.unary_result_ne _ _ _ _ _ _ h1).trans (StableHlo.unary_result_ne _ _ _ _ _ _ h0))

/-- The index list is `wordsOf` of the captions. -/
theorem list_eq (d : Dev nD) : list m d = wordsOf (m ((d : Thread nD τ).loc main_arg1)) := by
  refine (StableHlo.reshape_result' _ _ _ _ _).trans ?_
  rw [StableHlo.unary_result', StableHlo.unary_result']
  rfl

/-- Between the call and the LSTM only the operands' layouts are written. -/
theorem atRegion_keeps (d : Dev nD) (r : Ref sig .tc) (h3 : r ≠ main_v3) (h4 : r ≠ main_v4) (h5 : r ≠ main_v5) (h6 : r ≠ main_v6) (h7 : r ≠ main_v7) :
    atRegion m d (rf r) = atCall m d (rf r) :=
  (StableHlo.reshape_result_ne _ _ _ _ _ _ _ h7).trans ((StableHlo.reshape_result_ne _ _ _ _ _ _ _ h6).trans
    ((StableHlo.binary_result_ne _ _ _ _ _ _ _ _ h5).trans ((StableHlo.reshape_result_ne _ _ _ _ _ _ _ h4).trans
      (Function.update_of_ne (fun e => h3 (Proc.devRef_injective _ e)) _ _))))

/-- An argument of the program is still at the end what it was at launch. -/
theorem final_keeps (d : Dev nD) (r : Ref sig .tc) (h : ∀ w : Fin 10, r ≠ ![main_v0, main_v1, main_v2, main_v3, main_v4, main_v5, main_v6, main_v7, main_v8, main_v9] w)
    (hin : ∀ w : Fin 8, Pipeline.arrRef spec1 w = r → (win1 w).isOut = false) :
    final m d (rf r) = m ((d : Thread nD τ).loc r) :=
  (StableHlo.unary_result_ne _ _ _ _ _ _ (h 9)).trans
    ((Pipeline.afterRegion_keeps (Lstm.dat (atRegion m) d) (atRegion m d) launch1.win.arr_inj (fun _ => rfl) r hin).trans
      ((atRegion_keeps m d r (h 3) (h 4) (h 5) (h 6) (h 7)).trans (atCall_keeps m d r (h 0) (h 1) (h 2))))

/-! ## The precondition -/

/-- Every caption word names a row of the table. -/
def InVocab : Prop := ∀ (d : Dev nD) (j : S1024x20.Idx), ((m ((d : Thread nD τ).loc main_arg1) : S1024x20.Idx → BitVec 32) j).toNat < 1000

/-- Then so does every word of the list. -/
theorem list_inTable (h : InVocab m) (d : Dev nD) : InTable (list m d) := by
  rw [list_eq]; intro j; exact h d _

/-! ## The ghost state at launch -/

abbrev pipes : Fin 1 → Pipeline.Cfg sig Λ₀ := Pipeline.pin (pcfgs (F := F)) (fun q => (cfgs q).toPCfg_adm)

theorem pipes_inj : Function.Injective (Pipeline.cellOf (nD := nD) (τ := τ) (pipes (F := F))) :=
  launch1.toP.cellOf_inj fun q => (cfgs q).toPCfg_adm

/-- The handshakes' rounds, the window copies' rounds, no counter. -/
def u₀ : UU := (initOf (K (F := F)).hsCells (K (F := F)).hsToks, (initOf (Pipeline.cells pipes (pipes_inj (F := F))) (Pipeline.launchToks pipes (pipes_inj (F := F))), 1))

/-- What the TensorCore is dealt for the LSTM's window copies. -/
abbrev G (d : Dev nD) : sProp 𝕄 :=
  iprop(Pipeline.cellsGhost (pipes (F := F)) EP 0 d ∗ Pipeline.toksInit (pipes (F := F)) EP 0 d)

abbrev Pay : (K (F := F)).Pay (nD := nD) (Val := Elt F) (Name := ℕ) (U := UU) := Gather.P (list m) (table m) (blank m)

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (Pay m).x q thr) := by
  unfold u₀
  iintro Hu
  ihave H := (ownU_pair (initOf (K (F := F)).hsCells (K (F := F)).hsToks) _) $$ Hu
  icases H with ⟨HH, HR⟩
  ihave HR' := (own_pair_emb embR _ _) $$ HR
  icases HR' with ⟨HP, -⟩
  imod (Pipeline.fund_ghost (pipes (F := F)) EP pipes_inj) $$ HP with ⟨Hc, Ht⟩
  imodintro
  isplitl [HH]; · iexact HH
  isplitl [Hc Ht]
  · rw [bigSep_sep']
    isplitl [Hc]
    · rw [show (bigSep Finset.univ fun d : Dev nD => (Pipeline.cellsGhost (pipes (F := F)) EP 0 d : sProp 𝕄)) = bigSep Finset.univ fun d : Dev nD => bigSep Finset.univ fun p => Pipeline.cellsGhost (pipes (F := F)) EP p d from
        bigSep_congr fun d _ => (bigSep_univ_of_subsingleton (Φ := fun p : Fin 1 => (Pipeline.cellsGhost (pipes (F := F)) EP p d : sProp 𝕄)) (0 : Fin 1)).symm]
      iexact Hc
    · rw [show (bigSep Finset.univ fun d : Dev nD => (Pipeline.toksInit (pipes (F := F)) EP 0 d : sProp 𝕄)) = bigSep Finset.univ fun d : Dev nD => bigSep Finset.univ fun p => Pipeline.toksInit (pipes (F := F)) EP p d from
        bigSep_congr fun d _ => (bigSep_univ_of_subsingleton (Φ := fun p : Fin 1 => (Pipeline.toksInit (pipes (F := F)) EP p d : sProp 𝕄)) (0 : Fin 1)).symm]
      iexact Ht
  rw [show (bigSep Finset.univ fun thr : Thread nD τ => bigSep Finset.univ fun q : Fin 1 => (Pay m).x q thr) = bigSep Finset.univ fun _ => iprop(emp) from
    bigSep_congr fun _ _ => bigSep_univ_of_subsingleton (0 : Fin 1), show (bigSep Finset.univ fun _ : Thread nD τ => (iprop(emp) : sProp 𝕄)) = iprop(emp) from bigSep_emp_const _]
  iempintro

/-! ## The buffers around the SparseCore call -/

/-- The index list, the table and the call's result, -/
abbrev three : Finset (DevRef τ sig) := {rf main_v2, rf main_arg2, rf main_v3}

theorem three_unscoped : three ⊆ Pipeline.ucRefs τ sig := by
  intro b hb
  simp only [three, Finset.mem_insert, Finset.mem_singleton] at hb
  refine Finset.mem_filter.mpr ⟨?_, ?_⟩
  · rcases hb with rfl | rfl | rfl <;> exact StableHlo.devRef_mem_tcRefs _
  · rcases hb with rfl | rfl | rfl <;> decide

omit [FloatOps F] in
theorem held_three (d : Dev nD) (W : Valuation τ sig (Elt F)) :
    (held (d : Thread nD τ) three W : sProp 𝕄)
      = iprop((iLoc d ↦{fullShare} W (rf main_v2)) ∗ (xLoc d ↦{fullShare} W (rf main_arg2)) ∗ oLoc d ↦{fullShare} W (rf main_v3)) := by
  unfold held three
  rw [SparseCore.bigSep_insert' (by decide), SparseCore.bigSep_insert' (by decide), bigSep_singleton]

/-- all the unscoped buffers before the call: those three, which the call takes, and the rest; -/
theorem before_call (d : Dev nD) : (held (d : Thread nD τ) (Pipeline.ucRefs τ sig) (atCall m d) : sProp 𝕄)
    = iprop((bigSep Finset.univ fun c : Fin ((K (F := F)).nCore 0) => (Pay m).st 0 d c)
        ∗ held (d : Thread nD τ) (Pipeline.ucRefs τ sig \ three) (atCall m d)) := by
  rw [held_sub_split _ three_unscoped, held_three, Gather.st_eq]

/-- and after it: those the call brings back, and the rest as it was. -/
theorem after_call (d : Dev nD) : (held (d : Thread nD τ) (Pipeline.ucRefs τ sig) (called m d) : sProp 𝕄)
    = iprop((bigSep Finset.univ fun c : Fin ((K (F := F)).nCore 0) => (Pay m).dn 0 d c)
        ∗ held (d : Thread nD τ) (Pipeline.ucRefs τ sig \ three) (atCall m d)) := by
  rw [held_sub_split _ three_unscoped, held_three, Gather.dn_eq,
    held_congr (d : Thread nD τ) (S := Pipeline.ucRefs τ sig \ three) (V := called m d) (V' := atCall m d) (fun b hb =>
      Function.update_of_ne (fun e => (Finset.mem_sdiff.mp hb).2 (by rw [e]; simp [three])) _ _),
    show called m d (rf main_v2) = list m d from Function.update_of_ne (by decide) _ _,
    show called m d (rf main_arg2) = table m d from Function.update_of_ne (by decide) _ _,
    show called m d (rf main_v3) = rowsOf (table m d) (list m d) from Function.update_self _ _ _]

/-- A host operation touches unscoped buffers only. -/
theorem sub1 (op : HloOp τ sig (Elt F)) (h : op.bufs ⊆ StableHlo.tcRefs τ sig) : op.bufs ⊆ Pipeline.ucRefs τ sig := Pipeline.sub_ucRefs op h

/-! ## The TensorCore's state after the call, across the LSTM -/

/-- After the one call the TensorCore owes nothing more to the SparseCores. -/
theorem owes_after (d : Dev nD) : (K (F := F)).Otc d 1 = 0 := by
  unfold SparseCore.Cfg.Otc
  exact Finset.sum_eq_zero fun q _ => if_neg (by have := q.isLt; omega)

/-- Every wait it may have recorded lies below the level it has then reached. -/
theorem below_after (d : Dev nD) (W : Waits sig (HIx 1)) : (K (F := F)).WBelow (SparseCore.T d) W (8 * 1) := by
  rintro ⟨s, ι⟩ -
  match ι with
  | none => exact Nat.zero_le _
  | some q => have := (K (F := F)).lev_some_le (SparseCore.T d, s) q; have := q.isLt; show (K (F := F)).lev (SparseCore.T d, s) (some q) ≤ 8; omega

/-- So the bound on the waits recorded can be dropped, -/
theorem forget_bound (d : Dev nD) (R : sProp 𝕄) :
    iprop((∃ W, ⌜(K (F := F)).WBelow (SparseCore.T d) W (8 * 1)⌝ ∗ owes (SparseCore.T d) (0 : CellTallies nD τ sig (HIx 1)) W) ∗ R)
      ⊢ iprop((∃ W, owes (d : Thread nD τ) (0 : CellTallies nD τ sig (HIx 1)) W) ∗ R) := by
  iintro ⟨⟨%W, -, HO⟩, HR⟩
  isplitl [HO]
  · iexists W; iexact HO
  · iexact HR

/-- and restored. -/
theorem restore_bound (d : Dev nD) (R : sProp 𝕄) :
    iprop((∃ W, owes (d : Thread nD τ) (0 : CellTallies nD τ sig (HIx 1)) W) ∗ R)
      ⊢ iprop((∃ W, ⌜(K (F := F)).WBelow (SparseCore.T d) W (8 * 1)⌝ ∗ owes (SparseCore.T d) (0 : CellTallies nD τ sig (HIx 1)) W) ∗ R) := by
  iintro ⟨⟨%W, HO⟩, HR⟩
  isplitl [HO]
  · iexists W; isplitr
    · ipureintro; exact below_after d W
    · iexact HO
  · iexact HR

/-- Its state then is what it owes, nothing, and a rest that the LSTM does not touch. -/
theorem state_after (d : Dev nD) : ∃ R : sProp 𝕄, ((K (F := F)).tcSt EH d 1 ⊢ iprop((∃ W, owes (d : Thread nD τ) (0 : CellTallies nD τ sig (HIx 1)) W) ∗ R))
    ∧ (iprop((∃ W, owes (d : Thread nD τ) (0 : CellTallies nD τ sig (HIx 1)) W) ∗ R) ⊢ (K (F := F)).tcSt EH d 1) := by
  unfold SparseCore.Cfg.tcSt
  rw [owes_after]
  exact ⟨_, forget_bound d _, restore_bound d _⟩

/-! ## The program -/

/-- The program ends with every unscoped buffer at `final`. -/
abbrev FIN (d : Dev nD) : sProp 𝕄 := held (d : Thread nD τ) (Pipeline.ucRefs τ sig) (final m d)

theorem hmain [∀ e, Nonempty (Elt F e)] (κ : GSem nD τ sig → ℕ) (d : Dev nD) :
    iprop((K (F := F)).ctx EH (Pay m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR₁, hR₂⟩ := state_after (F := F) d
  unfold SparseCore.Cfg.tcRes SparseCore.Cfg.tcEnd
  rw [show (unscopedBufs d (fun b => m ((SparseCore.T d).loc b)) : sProp 𝕄) = held (d : Thread nD τ) (Pipeline.ucRefs τ sig) (StableHlo.launchContents m d) from
    Pipeline.unscopedBufs_held d (StableHlo.launchContents m d)]
  simp only [main, wp_bind, wp_pure]
  iintro ⟨#Hctx, Hst, ⟨Hb, Hheld, Hts, -⟩, Hg, Ht⟩
  -- the index list
  iapply (wp_hlo_within 𝒱 (SparseCore.T d) none Set.univ (op := opSlice) (S := Pipeline.ucRefs τ sig) (sub1 _ (by simp)) (V := StableHlo.launchContents m d)) $$ [Hb Hheld]
  · isplitl [Hb] <;> iassumption
  iintro ⟨Hb, Hheld⟩
  rw [wp_ret]; imodintro
  iapply (wp_hlo_within 𝒱 (SparseCore.T d) none Set.univ (op := opTurn) (S := Pipeline.ucRefs τ sig) (sub1 _ (by simp))) $$ [Hb Hheld]
  · isplitl [Hb] <;> iassumption
  iintro ⟨Hb, Hheld⟩
  rw [wp_ret]; imodintro
  iapply (wp_hlo_within 𝒱 (SparseCore.T d) none Set.univ (op := opFlat) (S := Pipeline.ucRefs τ sig) (sub1 _ (by simp))) $$ [Hb Hheld]
  · isplitl [Hb] <;> iassumption
  iintro ⟨Hb, Hheld⟩
  rw [wp_ret]; imodintro
  -- the lookup
  ihave Hh := (show held (d : Thread nD τ) (Pipeline.ucRefs τ sig) ((opFlat (F := F)).result ((opTurn (F := F)).result ((opSlice (F := F)).result (StableHlo.launchContents m d)))) ⊢ _
    from Entails.of_eq (before_call m d)) $$ Hheld
  icases Hh with ⟨Hcall, Hrest⟩
  iapply ((K (F := F)).wp_run (D (F := F)) 𝒱 (EH := EH) (P := Pay m) κ d 0) $$ [Hst Hcall Hrest Hb Hts Hg Ht]
  isplitr; · iexact Hctx
  isplitl [Hst]; · iexact Hst
  isplitl [Hcall]; · iexact Hcall
  iintro ⟨Hst, Hdn⟩
  ihave Hheld : iprop(held (d : Thread nD τ) (Pipeline.ucRefs τ sig) (called m d)) $$ [Hdn Hrest]
  · rw [after_call]; isplitl [Hdn] <;> iassumption
  -- the operands' layouts
  iapply (wp_hlo_within 𝒱 (SparseCore.T d) none Set.univ (op := opEmb) (S := Pipeline.ucRefs τ sig) (sub1 _ (by simp)) (V := called m d)) $$ [Hb Hheld]
  · isplitl [Hb] <;> iassumption
  iintro ⟨Hb, Hheld⟩
  rw [wp_ret]; imodintro
  iapply (wp_hlo_within 𝒱 (SparseCore.T d) none Set.univ (op := opBias) (S := Pipeline.ucRefs τ sig) (sub1 _ (by simp))) $$ [Hb Hheld]
  · isplitl [Hb] <;> iassumption
  iintro ⟨Hb, Hheld⟩
  rw [wp_ret]; imodintro
  iapply (wp_hlo_within 𝒱 (SparseCore.T d) none Set.univ (op := opBiasCol) (S := Pipeline.ucRefs τ sig) (sub1 _ (by simp))) $$ [Hb Hheld]
  · isplitl [Hb] <;> iassumption
  iintro ⟨Hb, Hheld⟩
  rw [wp_ret]; imodintro
  iapply (wp_hlo_within 𝒱 (SparseCore.T d) none Set.univ (op := opOutCol) (S := Pipeline.ucRefs τ sig) (sub1 _ (by simp))) $$ [Hb Hheld]
  · isplitl [Hb] <;> iassumption
  iintro ⟨Hb, Hheld⟩
  rw [wp_ret]; imodintro
  -- the LSTM
  ihave Hst' := (show (K (F := F)).tcSt EH d ((0 : Fin 1).val + 1) ⊢ _ from hR₁) $$ Hst
  icases Hst' with ⟨HO, HR⟩
  ihave Hlev := ((K (F := F)).ctx_levAts κ) $$ Hctx
  iapply (Lstm.region_run (atRegion m) d _) $$ [Hb Hheld HO Hlev Hg Ht HR Hts]
  isplitl [Hb]; · iexact Hb
  isplitl [Hheld]; · iexact Hheld
  isplitl [HO]; · iexact HO
  isplitl [Hlev]; · iexact Hlev
  isplitl [Hg]; · iexact Hg
  isplitl [Ht]; · iexact Ht
  iintro ⟨Hb, Hheld, HO⟩
  -- the batch first
  iapply (wp_hlo_within 𝒱 (SparseCore.T d) none Set.univ (op := opBatch) (S := Pipeline.ucRefs τ sig) (sub1 _ (by simp)) (V := Lstm.after (atRegion m) d)) $$ [Hb Hheld]
  · isplitl [Hb] <;> iassumption
  iintro ⟨Hb, Hheld⟩
  rw [wp_ret]; imodintro; imodintro
  isplitl [HO HR]
  · iapply hR₂; isplitl [HO] <;> iassumption
  isplitl [Hheld]; · iexact Hheld
  isplitl [Hb] <;> iassumption

/-! ## The run -/

/-- The memory the run ends with: the unscoped buffers at `final`. -/
def fq (d : Dev nD) (s' : Phys nD τ sig (Elt F)) : Prop := ∀ b ∈ Pipeline.ucRefs τ sig, s'.mem.mem (d, b) = final m d b

theorem hfin (d : Dev nD) (s' : Phys nD τ sig (Elt F)) : iprop(FIN m d ∗ SI s') ⊢ (⌜fq m d s'⌝ : sProp 𝕄) := by
  change iprop((bigSep (Pipeline.ucRefs τ sig) fun b => ((d, b) ↦{fullShare} final m d b)) ∗ SI s') ⊢ _
  iintro ⟨H, HSI⟩
  iapply (SI_pointsTo_bufs_agree (qs := fun _ => fullShare) (Pipeline.ucRefs τ sig))
  isplitl [HSI]; · iexact HSI
  iexact H

/-- What the run ends in: the result at `final`, the arguments unchanged, the semaphores at zero. -/
def QC : PUnit × MemSt nD τ sig (Elt F) → Prop := fun r => (∀ d : Dev nD,
    r.2.mem ((d : Thread nD τ).loc main_v9) = final m d (rf main_v9)
    ∧ r.2.mem ((d : Thread nD τ).loc main_arg0) = m ((d : Thread nD τ).loc main_arg0)
    ∧ r.2.mem ((d : Thread nD τ).loc main_arg1) = m ((d : Thread nD τ).loc main_arg1)
    ∧ r.2.mem ((d : Thread nD τ).loc main_arg2) = m ((d : Thread nD τ).loc main_arg2)
    ∧ r.2.mem ((d : Thread nD τ).loc main_arg3) = m ((d : Thread nD τ).loc main_arg3)
    ∧ r.2.mem ((d : Thread nD τ).loc main_arg4) = m ((d : Thread nD τ).loc main_arg4)
    ∧ r.2.mem ((d : Thread nD τ).loc main_arg5) = m ((d : Thread nD τ).loc main_arg5)
    ∧ r.2.mem ((d : Thread nD τ).loc main_arg6) = m ((d : Thread nD τ).loc main_arg6)
    ∧ r.2.mem ((d : Thread nD τ).loc main_arg7) = m ((d : Thread nD τ).loc main_arg7)
    ∧ r.2.mem ((d : Thread nD τ).loc main_arg8) = m ((d : Thread nD τ).loc main_arg8)) ∧ r.2.sem = fun _ => 0

theorem unscoped_mem (r : Ref sig .tc) (h : (rf r).isScoped = false) : rf r ∈ Pipeline.ucRefs τ sig :=
  Finset.mem_filter.mpr ⟨StableHlo.devRef_mem_tcRefs r, by simp [h]⟩

theorem QC_of (s' : Phys nD τ sig (Elt F)) (h : ∀ d, fq m d s') (hz : s'.mem.sem = fun _ => 0) : QC m (⟨⟩, s'.mem) := by
  refine ⟨fun d => ⟨h d _ (unscoped_mem main_v9 rfl), ?_, ?_, ?_, ?_, ?_, ?_, ?_, ?_, ?_⟩, hz⟩
  all_goals
    refine (h d _ (unscoped_mem _ rfl)).trans (final_keeps m d _ (by decide) (by decide))

/-- The program runs from any memory whose captions lie in the vocabulary, and ends as `QC` says. -/
theorem run_main [∀ e, Nonempty (Elt F e)] (hpre : InVocab m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pay m) (A := ∅) facts v₀
    (fun q hq => match q with | 0 => nomatch hq)
    (fun q _ => match q with | 0 => Gather.tileObl _ _ _ facts (list_inTable m hpre))
    (fun q _ => match q with | 0 => SparseCore.Cfg.VecSplit.of_plain (Gather.vecSplit _ _ _))
    m ρ main G (FIN m) (u₀ (F := F)) (sep_elim_left.trans (hu₀ m)) (hmain m ρ) (fq m) (hfin m) (QC m) (QC_of m)

end Cert.Proof.Main

end
-- ==== Proof.Frames.lean ====
module

public import proofs.«01_k».proof.Defs
public import proofs.«01_k».proof.Proof.Main
public import proofs.«01_k».proof.Proof.Gen.Kernel
public import proofs.«01_k».proof.Proof.Gen.Pre_in_vocabulary
public import proofs.«01_k».proof.Proof.Gen.ReferenceIdeal.Run

/-!
# The frames

`InVocab` is read off the precondition `in_vocabulary`, once for both arithmetics, and the run of `Main` with its values
dropped is then each frame of the kernel. The reference declares no semaphore, so its run gives its frame at once.
-/

@[expose] public section

open Idealize.ShloMosaic Idealize.SL.Sem

namespace Cert.Proof.Frames

/-- A word that is at least 0 and below 1000 in signed order is below 1000 as a natural number. -/
theorem word_lt (x : BitVec 32) (e : IntOp.andi (IntOp.cmpi .sge x 0#32) (IntOp.cmpi .slt x 1000#32) = 1#1) : x.toNat < 1000 := by
  have hb : ∀ p q : Bool, IntOp.andi (BitVec.ofBool p) (BitVec.ofBool q) = 1#1 → p = true ∧ q = true := by decide
  simp only [IntOp.cmpi] at e
  obtain ⟨h₁, h₂⟩ := hb _ _ e
  simp only [BitVec.sle_eq_decide, BitVec.slt_eq_decide, decide_eq_true_eq, BitVec.toInt_eq_toNat_cond, BitVec.toNat_ofNat,
    Nat.reducePow, Nat.reduceMod] at h₁ h₂
  have := x.isLt
  omega

section
variable {F : FTy → Type} [FloatOps F]

/-- The precondition, read at every caption word. -/
theorem words_lt (a0 a1 a2 a3 a4 a5 a6 a7 a8)
    (h : Cert.Pre_in_vocabulary.fn (F := F) a0 a1 a2 a3 a4 a5 a6 a7 a8 = fun _ => 1#1) (j) : (a1 j : BitVec 32).toNat < 1000 := by
  have e := congrFun h j
  simp only [Cert.Pre_in_vocabulary.fn, andi, cmpi, broadcastInDim, constantI] at e
  exact word_lt _ e

open Cert.KernelIdeal in
/-- The kernel's run with its value dropped, over any floats. -/
theorem frame_run [∀ e, Nonempty (Elt F e)] (m : (ℓ : Loc nD τ sig) → Buf (Elt F) ℓ) (ρ : Dev nD → PrngReg) (hv : Main.InVocab m) :
    θ_run (defs (F := F)) (threads (F := F)) ⟨m, fun _ => 0, ρ⟩ fun r => (∀ d : Dev nD,
        r.2.mem (d.tc.loc Cert.KernelIdeal.main_arg0) = m (d.tc.loc Cert.KernelIdeal.main_arg0) ∧
        r.2.mem (d.tc.loc Cert.KernelIdeal.main_arg1) = m (d.tc.loc Cert.KernelIdeal.main_arg1) ∧
        r.2.mem (d.tc.loc Cert.KernelIdeal.main_arg2) = m (d.tc.loc Cert.KernelIdeal.main_arg2) ∧
        r.2.mem (d.tc.loc Cert.KernelIdeal.main_arg3) = m (d.tc.loc Cert.KernelIdeal.main_arg3) ∧
        r.2.mem (d.tc.loc Cert.KernelIdeal.main_arg4) = m (d.tc.loc Cert.KernelIdeal.main_arg4) ∧
        r.2.mem (d.tc.loc Cert.KernelIdeal.main_arg5) = m (d.tc.loc Cert.KernelIdeal.main_arg5) ∧
        r.2.mem (d.tc.loc Cert.KernelIdeal.main_arg6) = m (d.tc.loc Cert.KernelIdeal.main_arg6) ∧
        r.2.mem (d.tc.loc Cert.KernelIdeal.main_arg7) = m (d.tc.loc Cert.KernelIdeal.main_arg7) ∧
        r.2.mem (d.tc.loc Cert.KernelIdeal.main_arg8) = m (d.tc.loc Cert.KernelIdeal.main_arg8)) ∧ r.2.sem = fun _ => 0 :=
  (θ_run defs _ _).mono (fun _ h => ⟨fun d => (h.1 d).2, h.2⟩) (Main.run_main m ρ hv)

end

/-- The kernel's frame in the exact arithmetic. -/
theorem frame_ideal : Cert.quiescent_KernelIdeal := fun m ρ hpre =>
  frame_run m ρ fun d j => words_lt _ _ _ _ _ _ _ _ _ (hpre d) j

/-- The two transcriptions have the same body for every label. -/
theorem bodies_eq : Cert.Kernel.defs₀ (F := Bits) = Cert.KernelIdeal.defs₀ (F := Bits) := by
  funext p ℓ a
  cases p <;> exact match ℓ with
    | 0 => rfl
    | 1 => rfl

/-- Hence the same table of bodies. -/
theorem defs_eq : Cert.Kernel.defs (F := Bits) = Cert.KernelIdeal.defs (F := Bits) :=
  congrArg (fun D => Cert.KernelIdeal.sc.defs (Pipeline.defs Cert.KernelIdeal.pcfgs D)) bodies_eq

/-- The kernel's frame at the machine's floats: the two transcriptions are one text. -/
theorem frame_kernel : Cert.quiescent_Kernel := fun m ρ hpre =>
  (congrArg (fun D => θ_run D Cert.KernelIdeal.threads ⟨m, fun _ => 0, ρ⟩ _) defs_eq).mpr
    (frame_run (F := Bits) m ρ fun d j => words_lt _ _ _ _ _ _ _ _ _ (hpre d) j)

/-- The reference's frame at every launch: no operation of it writes an argument, and it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof.Frames
-- ==== Proof.Model.lean ====
/-
  The captioner's mathematics over the extended reals, index by index.

  `Inputs.x t` is the input of position `t`: the image features first, then the embedded caption words. `Inputs.st n` is
  the hidden and the cell state after `n` positions, `Inputs.out` the scores. Both programs are shown to compute these.
-/
module

public import proofs.«01_k».proof.Proof.Gen.ReferenceIdeal
public import Idealize.ShloMosaic.Lib.Pointwise

@[expose] public section

noncomputable section

namespace Cert.Proof.Model

open Idealize.ShloMosaic
open Cert.ReferenceIdeal

/-- The nine arguments. -/
structure Inputs where
  feat : S1024x128.Idx → Elt Ideal .f32
  cap : S1024x20.Idx → BitVec 32
  tab : S1000x128.Idx → Elt Ideal .f32
  wih : S1024x128.Idx → Elt Ideal .f32
  whh : S1024x256.Idx → Elt Ideal .f32
  bih : S1024.Idx → Elt Ideal .f32
  bhh : S1024.Idx → Elt Ideal .f32
  wout : S1000x256.Idx → Elt Ideal .f32
  bout : S1000.Idx → Elt Ideal .f32

/-- A matrix of batch rows. -/
abbrev Rows (n : ℕ) : Type := Fin 1024 → Fin n → EReal

namespace Inputs
variable (p : Inputs)

/-- The table row of the word that member `b` of the batch has at position `q`. -/
def word (b : Fin 1024) (q : Fin 20) : Fin 1000 := ⟨min (p.cap (ix2 b q)).toNat 999, by omega⟩

/-- The LSTM's input at position `t`. -/
def x (t : Fin 20) : Rows 128 := fun b k =>
  if t.val = 0 then p.feat (ix2 b k) else p.tab (ix2 (p.word b ⟨t.val - 1, by omega⟩) k)

/-- The four gates before their nonlinearities, side by side. -/
def gates (x : Rows 128) (h : Rows 256) : Rows 1024 := fun b r =>
  (∑ k, x b k * p.wih (ix2 r k)) + (∑ k, h b k * p.whh (ix2 r k)) + p.bih (ix1 r) + p.bhh (ix1 r)

/-- The next cell state of the gates. -/
def cell (g : Rows 1024) (c : Rows 256) : Rows 256 := fun b j =>
  Ideal.logistic (g b ⟨256 + j.val, by omega⟩) * c b j + Ideal.logistic (g b ⟨j.val, by omega⟩) * Ideal.tanh (g b ⟨512 + j.val, by omega⟩)

/-- The next hidden state. -/
def hidden (g : Rows 1024) (c : Rows 256) : Rows 256 := fun b j =>
  Ideal.logistic (g b ⟨768 + j.val, by omega⟩) * Ideal.tanh (cell g c b j)

/-- Hidden and cell state after `n` positions. -/
def st : ℕ → Rows 256 × Rows 256
  | 0 => (fun _ _ => 0, fun _ _ => 0)
  | n + 1 => if h : n < 20 then
      (hidden (p.gates (p.x ⟨n, h⟩) (st n).1) (st n).2, cell (p.gates (p.x ⟨n, h⟩) (st n).1) (st n).2) else st n

/-- One position on. -/
theorem st_succ (t : Fin 20) : p.st (t.val + 1) =
    (hidden (p.gates (p.x t) (p.st t.val).1) (p.st t.val).2, cell (p.gates (p.x t) (p.st t.val).1) (p.st t.val).2) :=
  dif_pos t.isLt

/-- The score of vocabulary entry `v` at position `t` of member `b`. -/
def out (b : Fin 1024) (t : Fin 20) (v : Fin 1000) : EReal :=
  (∑ j, (p.st (t.val + 1)).1 b j * p.wout (ix2 v j)) + p.bout (ix1 v)

end Inputs

end Cert.Proof.Model
-- ==== Proof.KernelValue.lean ====
/-
  What the kernel computes, over the extended reals: its result is `Inputs.out`.

  The kernel keeps the state transposed, hidden unit by batch member, and looks the words up position by position. Each
  payload of the LSTM's body is read at an index (`gates_apply`, …), one step is matched with one step of the model, and
  the twenty steps follow by induction.
-/
module

public import proofs.«01_k».proof.Proof.Main
public import proofs.«01_k».proof.Proof.Model

@[expose] public section

noncomputable section

namespace Cert.Proof.KernelValue

open Idealize.ShloMosaic
open Cert.KernelIdeal Cert.KernelIdeal.Facts Cert.KernelIdeal.Gen Cert.Proof
open Cert.Proof.Lstm Cert.Proof.Model

/-! ## The payloads at an index -/

section Payloads

variable (i : grid1.Coords) (v4 : Vec Ideal S1024x128 .f32) (v5 : Vec Ideal S1x1024x128 .f32) (v9 : Vec Ideal S256x1024 .f32)
  (v10 : Vec Ideal S1024x128 .f32) (v12 : Vec Ideal S1024x256 .f32) (v15 : Vec Ideal S1024x1 .f32) (c : Vec Ideal S256x1024 .f32)

/-- The grid coordinate is compared with zero on 32-bit words; it is below twenty. -/
theorem first_select (a b : EReal) :
    Scalar.select (Scalar.cmpi CmpIPredicate.eq (BitVec.ofNat 32 (i 0).val) 0#32) a b = if (i 0).val = 0 then a else b := by
  have h : (i 0).val < 20 := (i 0).isLt
  have e : (BitVec.ofNat 32 (i 0).val = 0#32) ↔ (i 0).val = 0 := by
    rw [← BitVec.toNat_inj, BitVec.toNat_ofNat, BitVec.toNat_ofNat]; omega
  by_cases h0 : (i 0).val = 0
  · rw [if_pos h0, h0]; rfl
  · have h1 : (BitVec.ofNat 32 (i 0).val == 0#32) = false := by rw [beq_eq_false_iff_ne]; exact fun h' => h0 (e.mp h')
    rw [if_neg h0]
    show Scalar.select (BitVec.ofBool (BitVec.ofNat 32 (i 0).val == 0#32)) a b = b
    rw [h1]; rfl

set_option maxRecDepth 16384 in
theorem gates_apply (r b : Fin 1024) : k1_pay5 i v4 v5 v9 v10 v12 v15 (ix2 r b) =
    ∑ k, v10 (ix2 r k) * (if (i 0).val = 0 then v4 (ix2 b k) else v5 (ix3 0 b k)) + ∑ k, v12 (ix2 r k) * v9 (ix2 k b) + v15 (ix2 r 0) := by
  pointwise [k1_pay5]
  simp only [first_select]

set_option maxRecDepth 16384 in
theorem cell_apply (j : Fin 256) (b : Fin 1024) : k1_pay6 i v4 v5 v9 v10 v12 v15 c (ix2 j b) =
    Inputs.cell (fun b r => k1_pay5 i v4 v5 v9 v10 v12 v15 (ix2 r b)) (fun b j => c (ix2 j b)) b j := by
  pointwise [k1_pay6, Inputs.cell]

set_option maxRecDepth 16384 in
theorem cell_apply' (j : Fin 256) (b : Fin 1024) : k1_pay8 i v4 v5 v9 v10 v12 v15 c (ix2 j b) =
    Inputs.cell (fun b r => k1_pay5 i v4 v5 v9 v10 v12 v15 (ix2 r b)) (fun b j => c (ix2 j b)) b j := by
  rw [← cell_apply]
  pointwise [k1_pay8]

set_option maxRecDepth 16384 in
theorem hidden_apply (j : Fin 256) (b : Fin 1024) : k1_pay7 i v4 v5 v9 v10 v12 v15 c (ix2 j b) =
    Inputs.hidden (fun b r => k1_pay5 i v4 v5 v9 v10 v12 v15 (ix2 r b)) (fun b j => c (ix2 j b)) b j := by
  unfold Inputs.hidden
  rw [← cell_apply]
  pointwise [k1_pay7]

set_option maxRecDepth 16384 in
theorem copy_apply (h : Vec Ideal S256x1024 .f32) (j : Fin 256) (b : Fin 1024) : k1_pay1 (F := Ideal) h (ix2 j b) = h (ix2 j b) := by
  pointwise [k1_pay1]

set_option maxRecDepth 16384 in
theorem scores_apply (h : Vec Ideal S256x1024 .f32) (w : Vec Ideal S1000x256 .f32) (v : Vec Ideal S1000x1 .f32) (j : Fin 1000) (b : Fin 1024) :
    k1_pay2 h w v (ix3 0 j b) = ∑ k, w (ix2 j k) * h (ix2 k b) + v (ix2 j 0) := by
  pointwise [k1_pay2]

set_option maxRecDepth 16384 in
theorem zeroH_apply (j : Fin 256) (b : Fin 1024) : k1_pay3 (F := Ideal) (ix2 j b) = (0 : EReal) := by
  pointwise [k1_pay3]

set_option maxRecDepth 16384 in
theorem zeroC_apply (j : Fin 256) (b : Fin 1024) : k1_pay4 (F := Ideal) (ix2 j b) = (0 : EReal) := by
  pointwise [k1_pay4]

end Payloads

/-! ## The block of embedded words -/

theorem block_index : ∀ t : Fin cfg1.N, win1_1.index t 0 = t.val - 1 ∧ win1_1.index t 1 = 0 ∧ win1_1.index t 2 = 0 := by
  decide +kernel

theorem embAt_apply (v4 : S19x1024x128.Idx → Elt Ideal .f32) (t : Fin cfg1.N) (b : Fin 1024) (k : Fin 128) (h : t.val - 1 < 19) :
    Lstm.embAt v4 t (ix3 0 b k) = v4 (ix3 ⟨t.val - 1, h⟩ b k) := by
  obtain ⟨h0, h1, h2⟩ := block_index t
  unfold Lstm.embAt
  blk_ext [h0, h1, h2]

/-! ## The twenty steps -/

/-- The operands the LSTM is launched with are laid out from the arguments `p`. -/
structure Fits (p : Inputs) (w : Weights Ideal) (v4 : S19x1024x128.Idx → Elt Ideal .f32) : Prop where
  feat : w.feat = p.feat
  wih : w.wih = p.wih
  whh : w.whh = p.whh
  bias : ∀ r : Fin 1024, w.bias (ix2 r 0) = p.bih (ix1 r) + p.bhh (ix1 r)
  wout : w.wout = p.wout
  bout : ∀ v : Fin 1000, w.bout (ix2 v 0) = p.bout (ix1 v)
  emb : ∀ (q : Fin 19) (b : Fin 1024) (k : Fin 128), v4 (ix3 q b k) = p.tab (ix2 (p.word b ⟨q.val, by omega⟩) k)

section Steps

variable {p : Inputs} {w : Weights Ideal} {v4 : S19x1024x128.Idx → Elt Ideal .f32}

/-- A state buffer, batch member by hidden unit. -/
abbrev turned (h : Vec Ideal S256x1024 .f32) : Rows 256 := fun b j => h (ix2 j b)

/-- Zeroing the state at the first step does nothing to a state that is zero there. -/
theorem start_state (t : Fin cfg1.N) : startH (grid1.coords t) (state w v4 t.val).1 = (state w v4 t.val).1
    ∧ startC (grid1.coords t) (state w v4 t.val).2 = (state w v4 t.val).2 := by
  have e := coord_eq t
  unfold startH startC
  by_cases h : t.val = 0
  · rw [if_pos (e.trans h), if_pos (e.trans h), h]; exact ⟨rfl, rfl⟩
  · rw [if_neg (e ▸ h), if_neg (e ▸ h)]; exact ⟨rfl, rfl⟩

/-- The gates of step `t` from any hidden state. -/
theorem gates_eq (hf : Fits p w v4) (t : Fin cfg1.N) (h : Vec Ideal S256x1024 .f32) :
    (fun b r => k1_pay5 (grid1.coords t) w.feat (Lstm.embAt v4 t) h w.wih w.whh w.bias (ix2 r b)) = p.gates (p.x t) (turned h) := by
  funext b r
  have ht : t.val < 20 := t.isLt
  rw [gates_apply, hf.bias, hf.wih, hf.whh, hf.feat, coord_eq]
  unfold Inputs.gates Inputs.x
  rw [← add_assoc]
  congr 2
  congr 1
  · refine Finset.sum_congr rfl fun k _ => ?_
    rw [mul_comm]
    congr 1
    by_cases h0 : t.val = 0
    · rw [if_pos h0, if_pos h0]
    · rw [if_neg h0, if_neg h0, embAt_apply v4 t b k (by omega), hf.emb]
  · exact Finset.sum_congr rfl fun k _ => mul_comm _ _

/-- The kernel's state is the model's, transposed. -/
theorem state_eq (hf : Fits p w v4) : ∀ n : ℕ, n ≤ 20 → turned (state w v4 n).1 = (p.st n).1 ∧ turned (state w v4 n).2 = (p.st n).2
  | 0, _ => ⟨funext fun b => funext fun j => zeroH_apply j b, funext fun b => funext fun j => zeroC_apply j b⟩
  | n + 1, hn => by
    obtain ⟨ih, ic⟩ := state_eq hf n (by omega)
    have hs := Lstm.state_succ w v4 (⟨n, hn⟩ : Fin cfg1.N)
    have hm := p.st_succ ⟨n, hn⟩
    have h0 := start_state (w := w) (v4 := v4) (⟨n, hn⟩ : Fin cfg1.N)
    have hg := gates_eq hf (⟨n, hn⟩ : Fin cfg1.N) (state w v4 n).1
    dsimp only at hs hm h0
    rw [hs, hm]
    constructor
    · funext b j
      show k1_pay1 (stepH' w _ _ _ _) (ix2 j b) = _
      rw [copy_apply, stepH', h0.1, h0.2, hidden_apply, hg]
      dsimp only
      rw [← ih, ← ic]
      rfl
    · funext b j
      show stepC w _ _ _ _ (ix2 j b) = _
      rw [stepC, h0.1, h0.2, cell_apply', hg]
      dsimp only
      rw [← ih, ← ic]
      rfl

/-- The scores that step `t` writes are the model's of position `t`. -/
theorem scoresAt_eq (hf : Fits p w v4) (t : Fin cfg1.N) (v : Fin 1000) (b : Fin 1024) :
    scoresAt w v4 t (ix3 0 v b) = p.out b t v := by
  have ht : t.val < 20 := t.isLt
  obtain ⟨ih, -⟩ := state_eq hf (t.val + 1) (by omega)
  have hs := Lstm.state_succ w v4 t
  have e : ∀ j, stepH' w (grid1.coords t) (Lstm.embAt v4 t) (state w v4 t.val).1 (state w v4 t.val).2 (ix2 j b) = (p.st (t.val + 1)).1 b j := by
    intro j
    rw [← ih, hs]
    exact (copy_apply _ j b).symm
  unfold scoresAt scores Inputs.out
  rw [scores_apply, hf.bout, hf.wout]
  congr 1
  refine Finset.sum_congr rfl fun k _ => ?_
  rw [e, mul_comm]

end Steps

/-! ## The whole program -/

section Program

variable (m : (ℓ : Loc nD τ sig) → Buf (Elt Ideal) ℓ)

/-- The arguments the kernel is launched with on device `d`. -/
def argsOf (d : Dev nD) : Inputs where
  feat := m (d.tc.loc main_arg0)
  cap := m (d.tc.loc main_arg1)
  tab := m (d.tc.loc main_arg2)
  wih := m (d.tc.loc main_arg3)
  whh := m (d.tc.loc main_arg4)
  bih := m (d.tc.loc main_arg5)
  bhh := m (d.tc.loc main_arg6)
  wout := m (d.tc.loc main_arg7)
  bout := m (d.tc.loc main_arg8)

/-- An argument reaches the LSTM as it was launched. -/
theorem arg_at (d : Dev nD) (r : Ref sig .tc) (h : ∀ w : Fin 8, r ≠ ![main_v0, main_v1, main_v2, main_v3, main_v4, main_v5, main_v6, main_v7] w) :
    Main.atRegion m d (rf r) = m (d.tc.loc r) :=
  (Main.atRegion_keeps m d r (h 3) (h 4) (h 5) (h 6) (h 7)).trans (Main.atCall_keeps m d r (h 0) (h 1) (h 2))

/-- An argument is the same before the bias is added. -/
theorem arg_before (d : Dev nD) (r : Ref sig .tc) (h : ∀ w : Fin 5, r ≠ ![main_v0, main_v1, main_v2, main_v3, main_v4] w) :
    (Main.opEmb (F := Ideal)).result (Main.called m d) (rf r) = m (d.tc.loc r) :=
  (StableHlo.reshape_result_ne _ _ _ _ _ _ _ (h 4)).trans
    ((Function.update_of_ne (fun e => h 3 (Proc.devRef_injective _ e)) _ _).trans (Main.atCall_keeps m d r (h 0) (h 1) (h 2)))

/-- The two biases are added, and stand in a column. -/
theorem bias_at (d : Dev nD) : (Main.atRegion m d (rf main_v6) : S1024x1.Idx → Elt Ideal .f32) =
    shapeCast S1024x1 (addf (F := Ideal) (φ := .f32) (argsOf m d).bih (argsOf m d).bhh) shapeCasts_S1024_S1024x1 := by
  refine (StableHlo.reshape_result_ne _ _ _ _ _ _ _ (by decide)).trans ((StableHlo.reshape_result' _ _ _ _ _).trans ?_)
  refine congrArg (fun x : S1024.Idx → Elt Ideal .f32 => shapeCast S1024x1 x shapeCasts_S1024_S1024x1) ((StableHlo.binary_result' _ _ _ _ _).trans ?_)
  exact congrArg₂ (addf (F := Ideal) (φ := .f32)) (arg_before m d main_arg5 (by decide)) (arg_before m d main_arg6 (by decide))

/-- The output bias stands in a column. -/
theorem bout_at (d : Dev nD) : (Main.atRegion m d (rf main_v7) : S1000x1.Idx → Elt Ideal .f32) =
    shapeCast S1000x1 (argsOf m d).bout shapeCasts_S1000_S1000x1 := by
  refine (StableHlo.reshape_result' _ _ _ _ _).trans ?_
  refine congrArg (fun x : S1000.Idx → Elt Ideal .f32 => shapeCast S1000x1 x shapeCasts_S1000_S1000x1) ?_
  exact (StableHlo.reshape_result_ne _ _ _ _ _ _ _ (by decide)).trans
    ((StableHlo.binary_result_ne _ _ _ _ _ _ _ _ (by decide)).trans (arg_before m d main_arg8 (by decide)))

/-- The words looked up, position by position. -/
theorem emb_at (d : Dev nD) : (Main.atRegion m d (rf main_v4) : S19x1024x128.Idx → Elt Ideal .f32) =
    shapeCast S19x1024x128 (Gather.rowsOf (F := Ideal) (argsOf m d).tab (Main.wordsOf (argsOf m d).cap)) shapeCasts_S19456x128_S19x1024x128 := by
  refine (StableHlo.reshape_result_ne _ _ _ _ _ _ _ (by decide)).trans ((StableHlo.reshape_result_ne _ _ _ _ _ _ _ (by decide)).trans
    ((StableHlo.binary_result_ne _ _ _ _ _ _ _ _ (by decide)).trans ((StableHlo.reshape_result' _ _ _ _ _).trans ?_)))
  refine congrArg (fun x : S19456x128.Idx → Elt Ideal .f32 => shapeCast S19x1024x128 x shapeCasts_S19456x128_S19x1024x128) ?_
  refine (Function.update_self _ _ _).trans ?_
  rw [Main.list_eq]
  exact congrArg (fun t => Gather.rowsOf (F := Ideal) t _) (Main.atCall_keeps m d main_arg2 (by decide) (by decide) (by decide))

set_option maxRecDepth 16384 in
theorem words_apply (cap : S1024x20.Idx → BitVec 32) (q : Fin 19) (b : Fin 1024) (h : q.val * 1024 + b.val < 19456) :
    Main.wordsOf cap (ix1 ⟨q.val * 1024 + b.val, h⟩) = cap (ix2 b ⟨q.val, by omega⟩) := by
  unfold Main.wordsOf
  pointwise

theorem rowsOf_apply (tv : S1000x128.Idx → Elt Ideal .f32) (xs : S19456.Idx → BitVec 32) (i : Fin 19456) (k : Fin 128) :
    Gather.rowsOf tv xs (ix2 i k) = tv (ix2 ⟨min (xs (ix1 i)).toNat 999, by omega⟩ k) := by
  simp only [ix2_eq_valueIdx, ix1_eq_valueIdx]
  rfl

set_option maxRecDepth 16384 in
theorem emb_apply (p : Inputs) (q : Fin 19) (b : Fin 1024) (k : Fin 128) :
    shapeCast S19x1024x128 (Gather.rowsOf (F := Ideal) p.tab (Main.wordsOf p.cap)) shapeCasts_S19456x128_S19x1024x128 (ix3 q b k) =
      p.tab (ix2 (p.word b ⟨q.val, by omega⟩) k) := by
  pointwise
  exact (rowsOf_apply _ _ _ _).trans (congrArg (fun w : Fin 1000 => p.tab (ix2 w k))
    (Fin.ext (congrArg (fun x : BitVec 32 => min x.toNat 999) (words_apply p.cap q b (by omega)))))

/-- The operands the LSTM is launched with. -/
theorem fits (d : Dev nD) : Fits (argsOf m d) (wsOf (Main.atRegion m d)) (Main.atRegion m d (rf main_v4)) where
  feat := arg_at m d main_arg0 (by decide)
  wih := arg_at m d main_arg3 (by decide)
  whh := arg_at m d main_arg4 (by decide)
  bias r := by
    refine (congrFun (bias_at m d) (ix2 r 0)).trans ?_
    pointwise
  wout := arg_at m d main_arg7 (by decide)
  bout v := by
    refine (congrFun (bout_at m d) (ix2 v 0)).trans ?_
    pointwise
  emb q b k := (congrFun (emb_at m d) (ix3 q b k)).trans (emb_apply _ q b k)

set_option maxRecDepth 16384 in
theorem out_index : ∀ t : Fin cfg1.N, win1_7.index t 0 = t.val ∧ win1_7.index t 1 = 0 ∧ win1_7.index t 2 = 0 := by
  decide +kernel

theorem scores_index (y : S1x1000x1024.Idx) : ∃ v b, y = ix3 0 v b := by
  idx_vars y
  have h0 : y0 = 0 := Fin.ext (by omega)
  exact ⟨y1, y2, by rw [h0]⟩

/-- A step's whole block of scores. -/
theorem block_eq (d : Dev nD) (t : Fin cfg1.N) (y : S1x1000x1024.Idx) :
    scoresAt (wsOf (Main.atRegion m d)) (Main.atRegion m d (rf main_v4)) t y = (argsOf m d).out (y 2) t (y 1) := by
  obtain ⟨v, b, rfl⟩ := scores_index y
  exact scoresAt_eq (fits m d) t v b

theorem out_congr (p : Inputs) {b b' : Fin 1024} {t t' : Fin 20} {v v' : Fin 1000} (hb : b.val = b'.val) (ht : t.val = t'.val)
    (hv : v.val = v'.val) : p.out b t v = p.out b' t' v' :=
  congr (congr (congrArg p.out (Fin.ext hb)) (Fin.ext ht)) (Fin.ext hv)

/-- The scores, position by vocabulary by batch, as the twenty steps leave them. -/
theorem blocks_eq (d : Dev nD) : (Lstm.after (Main.atRegion m) d (rf main_v8) : S20x1000x1024.Idx → Elt Ideal .f32) =
    fun j => (argsOf m d).out (j 2) (j 0) (j 1) := by
  refine (Pipeline.afterRegion_arr (Lstm.dat (Main.atRegion m) d) (Main.atRegion m d) launch1.win.arr_inj 7).trans ?_
  refine (Lstm.dat (Main.atRegion m) d).arrAt_eq_of_covers 7 _ (by decide +kernel) fun t hf y => ?_
  obtain ⟨e0, e1, e2⟩ := out_index t
  refine (block_eq m d t y).trans (out_congr _ ?_ ?_ ?_)
  · blk_simp [e0, e1, e2]
  · blk_simp [e0, e1, e2]
  · blk_simp [e0, e1, e2]

set_option maxRecDepth 16384 in
theorem turn_apply (f : S20x1000x1024.Idx → Elt Ideal .f32) (b : Fin 1024) (t : Fin 20) (v : Fin 1000) :
    transpose S1024x20x1000 [2, 0, 1] f transposes_S20x1000x1024_S1024x20x1000_2_0_1 (ix3 b t v) = f (ix3 t v b) := by
  pointwise

/-- The kernel's result is the model's. -/
theorem final_eq (d : Dev nD) : (Main.final m d (rf main_v9) : S1024x20x1000.Idx → Elt Ideal .f32) =
    fun j => (argsOf m d).out (j 0) (j 1) (j 2) := by
  refine (StableHlo.unary_result' _ _ _ _).trans ?_
  funext j
  idx_vars j
  exact (turn_apply _ _ _ _).trans (congrFun (blocks_eq m d) _)

end Program

end Cert.Proof.KernelValue
-- ==== Proof.RefValue.lean ====
/-
  What the reference computes, over the extended reals: its result is `Inputs.out`.

  The reference looks all words up at once, stacks the features before them, and walks the positions in a loop that carries
  the hidden and the cell state and the stack of hidden states. One trip is matched with one step of the model, and the
  twenty trips follow by induction.
-/
module

public import proofs.«01_k».proof.Proof.Gen.ReferenceIdeal.Run
public import proofs.«01_k».proof.Proof.Model
public import Idealize.ShloMosaic.Lib.Tactic.CleanTypes
public import Idealize.ShloMosaic.Lib.ReduceAll

@[expose] public section

noncomputable section

namespace Cert.Proof.RefValue

open Idealize.ShloMosaic Idealize.ShloMosaic.TcCoe
open Idealize.ShloMosaic.StableHlo Idealize.ShloMosaic.Tactic Idealize.ShloMosaic.Pipeline
open Cert.ReferenceIdeal Cert.ReferenceIdeal.Gen Cert.ReferenceIdeal.Value
open Cert.Proof.Model

/-! ## One trip at an index -/

section Trip

variable (st : Fin 3 → ℤ) (n : Fin 20) (h0 : st 0 = (n.val : ℤ)) (h1 : st 1 = 0) (h2 : st 2 = 0)
include h0 h1 h2

set_option maxRecDepth 16384 in
/-- The block of inputs that a trip slices out. -/
theorem slice_apply (xs : S20x1024x128.Idx → EReal) (b : Fin 1024) (k : Fin 128) :
    shapeCast S1024x128 (Host.dynamicSlice S1x1024x128 xs st sliceFits_S20x1024x128_S1x1024x128) shapeCasts_S1x1024x128_S1024x128 (ix2 b k) =
      xs (ix3 n b k) := by
  have hn := n.isLt
  pointwise
  have e0 := Host.clampedStart_of_le sliceFits_S20x1024x128_S1x1024x128.1 st 0 n.val h0 (show n.val + 1 ≤ 20 by omega)
  have e1 := Host.clampedStart_of_le sliceFits_S20x1024x128_S1x1024x128.1 st 1 0 h1 (show 0 + 1024 ≤ 1024 by omega)
  have e2 := Host.clampedStart_of_le sliceFits_S20x1024x128_S1x1024x128.1 st 2 0 h2 (show 0 + 128 ≤ 128 by omega)
  simp only [e0, e1, e2, Nat.zero_add]

set_option maxRecDepth 16384 in
/-- The stack of hidden states after a trip. -/
theorem put_apply (hs : S20x1024x256.Idx → EReal) (u : S1024x256.Idx → EReal) (t : Fin 20) (b : Fin 1024) (j : Fin 256) :
    Host.dynamicUpdateSlice hs (broadcastInDim S1x1024x256 ![1, 2] bcast_S1024x256_S1x1024x256_1_2 u) st
      updateFits_S20x1024x256_S1x1024x256 (ix3 t b j) = if t.val = n.val then u (ix2 b j) else hs (ix3 t b j) := by
  have hn := n.isLt
  pointwise
  have e0 := Host.clampedStart_of_le updateFits_S20x1024x256_S1x1024x256.1 st 0 n.val h0 (show n.val + 1 ≤ 20 by omega)
  have e1 := Host.clampedStart_of_le updateFits_S20x1024x256_S1x1024x256.1 st 1 0 h1 (show 0 + 1024 ≤ 1024 by omega)
  have e2 := Host.clampedStart_of_le updateFits_S20x1024x256_S1x1024x256.1 st 2 0 h2 (show 0 + 256 ≤ 256 by omega)
  simp only [e0, e1, e2, Nat.zero_add, Nat.sub_zero]
  refine dite_congr (propext ?_) (fun _ => rfl) fun _ => rfl
  omega

omit h0 h1 h2

variable (V : Valuation τ sig (Elt Ideal))

set_option maxRecDepth 16384 in
theorem cell_apply (b : Fin 1024) (j : Fin 256) : (res_main_while0b_v52 V : S1024x256.Idx → EReal) (ix2 b j) =
    Inputs.cell (fun b r => (res_main_while0b_v26 V : S1024x1024.Idx → EReal) (ix2 b r))
      (fun b j => (V (Proc.devRef .tc main_v8_7) : S1024x256.Idx → EReal) (ix2 b j)) b j := by
  unfold res_main_while0b_v52 Inputs.cell
  clean_types
  pointwise
  rfl

set_option maxRecDepth 16384 in
theorem hidden_apply (b : Fin 1024) (j : Fin 256) : (res_main_while0b_v54 V : S1024x256.Idx → EReal) (ix2 b j) =
    Inputs.hidden (fun b r => (res_main_while0b_v26 V : S1024x1024.Idx → EReal) (ix2 b r))
      (fun b j => (V (Proc.devRef .tc main_v8_7) : S1024x256.Idx → EReal) (ix2 b j)) b j := by
  unfold Inputs.hidden
  rw [← cell_apply]
  unfold res_main_while0b_v54
  clean_types
  pointwise
  rfl

/-- The start of a slice or an update on the carried counter. -/
abbrev starts (v : S_.Idx → BitVec 32) : Fin 3 → ℤ := fun k =>
  (((![v, constantI S_ 32 0#32, constantI S_ 32 0#32] : Fin 3 → (⟨S_, .i32⟩ : BufTy).Contents (Elt Ideal))) k (Shape.Idx.first h_S_)).toInt

theorem starts_zero (hv : V (Proc.devRef .tc main_v8_5) = fun _ => BitVec.ofNat 32 n.val) :
    starts (V (Proc.devRef .tc main_v8_5)) 0 = (n.val : ℤ) := by
  have e : ∀ n : Fin 20, (BitVec.ofNat 32 n.val).toInt = (n.val : ℤ) := by decide
  show ((V (Proc.devRef .tc main_v8_5) : S_.Idx → BitVec 32) (Shape.Idx.first h_S_)).toInt = _
  rw [hv]
  exact e n

set_option maxRecDepth 16384 in
/-- The sums of a trip's gates, of the inputs it sliced out. -/
theorem sums_apply (x : FVec Ideal S1024x128 .f32) (wih : FVec Ideal S1024x128 .f32) (h : FVec Ideal S1024x256 .f32) (whh : FVec Ideal S1024x256 .f32)
    (bih bhh : FVec Ideal S1024 .f32) (b r : Fin 1024) :
    (addf (addf (addf (Host.dotGeneral dot_S1024x128_S128x1024_S1024x1024_1_0_0_1_n_n none x
      (transpose S128x1024 [1, 0] wih transposes_S1024x128_S128x1024_1_0))
      (Host.dotGeneral dot_S1024x256_S256x1024_S1024x1024_1_0_0_1_n_n none h (transpose S256x1024 [1, 0] whh transposes_S1024x256_S256x1024_1_0)))
      (broadcastInDim S1024x1024 ![0, 1] bcast_S1x1024_S1024x1024_0_1 (broadcastInDim S1x1024 ![1] bcast_S1024_S1x1024_1 bih)))
      (broadcastInDim S1024x1024 ![0, 1] bcast_S1x1024_S1024x1024_0_1 (broadcastInDim S1x1024 ![1] bcast_S1024_S1x1024_1 bhh)) : FVec Ideal S1024x1024 .f32) (ix2 b r) =
    (∑ k, x (ix2 b k) * wih (ix2 r k)) + (∑ k, h (ix2 b k) * whh (ix2 r k)) + bih (ix1 r) + bhh (ix1 r) := by
  pointwise

end Trip

/-! ## The twenty trips -/

/-- The carried buffers after `n` trips, of the arguments `p`. -/
structure At (p : Inputs) (n : ℕ) (V : Valuation τ sig (Elt Ideal)) : Prop where
  xs : ∀ t b k, (V (Proc.devRef .tc main_v8_0) : S20x1024x128.Idx → EReal) (ix3 t b k) = p.x t b k
  wih : V (Proc.devRef .tc main_v8_1) = p.wih
  whh : V (Proc.devRef .tc main_v8_2) = p.whh
  bih : V (Proc.devRef .tc main_v8_3) = p.bih
  bhh : V (Proc.devRef .tc main_v8_4) = p.bhh
  ctr : V (Proc.devRef .tc main_v8_5) = fun _ => BitVec.ofNat 32 n
  h : ∀ b j, (V (Proc.devRef .tc main_v8_6) : S1024x256.Idx → EReal) (ix2 b j) = (p.st n).1 b j
  c : ∀ b j, (V (Proc.devRef .tc main_v8_7) : S1024x256.Idx → EReal) (ix2 b j) = (p.st n).2 b j
  hs : ∀ t b j, t.val < n → (V (Proc.devRef .tc main_v8_8) : S20x1024x256.Idx → EReal) (ix3 t b j) = (p.st (t.val + 1)).1 b j

/-- A trip's gates. -/
theorem At.gates {p : Inputs} {n : Fin 20} {V : Valuation τ sig (Elt Ideal)} (H : At p n.val V) :
    (fun b r => (res_main_while0b_v26 V : S1024x1024.Idx → EReal) (ix2 b r)) = p.gates (p.x n) (p.st n.val).1 := by
  funext b r
  have hx : ∀ k, _ = p.x n b k := fun k => (slice_apply (starts (V (Proc.devRef .tc main_v8_5))) n (starts_zero n V H.ctr) rfl rfl
    (V (Proc.devRef .tc main_v8_0)) b k).trans (H.xs n b k)
  have hi : (∑ k, _) = ∑ k, p.x n b k * p.wih (ix2 r k) :=
    Finset.sum_congr rfl fun k _ => congrArg₂ (· * ·) (hx k) (congrFun H.wih (ix2 r k))
  have hh : (∑ k, _) = ∑ k, (p.st n.val).1 b k * p.whh (ix2 r k) :=
    Finset.sum_congr rfl fun k _ => congrArg₂ (· * ·) (H.h b k) (congrFun H.whh (ix2 r k))
  exact (sums_apply _ _ _ _ _ _ b r).trans (congrArg₂ (· + ·) (congrArg₂ (· + ·) (congrArg₂ (· + ·) hi hh) (congrFun H.bih (ix1 r)))
    (congrFun H.bhh (ix1 r)))

theorem At.cells {p : Inputs} {n : Fin 20} {V : Valuation τ sig (Elt Ideal)} (H : At p n.val V) :
    (fun b j => (V (Proc.devRef .tc main_v8_7) : S1024x256.Idx → EReal) (ix2 b j)) = (p.st n.val).2 :=
  funext fun b => funext fun j => H.c b j

/-- A trip's hidden state. -/
theorem At.next {p : Inputs} {n : Fin 20} {V : Valuation τ sig (Elt Ideal)} (H : At p n.val V) (b : Fin 1024) (j : Fin 256) :
    (res_main_while0b_v54 V : S1024x256.Idx → EReal) (ix2 b j) = (p.st (n.val + 1)).1 b j := by
  rw [hidden_apply, H.gates, H.cells, Inputs.st_succ]

/-- One trip on. -/
theorem At.step {p : Inputs} {n : Fin 20} {V : Valuation τ sig (Elt Ideal)} (H : At p n.val V) : At p (n.val + 1) (STEP V) where
  xs := by rw [STEP_main_v8_0]; exact H.xs
  wih := (STEP_main_v8_1 V).trans H.wih
  whh := (STEP_main_v8_2 V).trans H.whh
  bih := (STEP_main_v8_3 V).trans H.bih
  bhh := (STEP_main_v8_4 V).trans H.bhh
  ctr := by
    rw [STEP_main_v8_5]
    unfold step_main_v8_5
    rw [H.ctr]
    funext i
    show BitVec.ofNat 32 n.val + 1#32 = BitVec.ofNat 32 (n.val + 1)
    rw [BitVec.ofNat_add]
  h b j := (congrFun (STEP_main_v8_6 V) (ix2 b j)).trans (H.next b j)
  c b j := by
    refine (congrFun (STEP_main_v8_7 V) (ix2 b j)).trans ((cell_apply V b j).trans ?_)
    rw [H.gates, H.cells, Inputs.st_succ]
  hs t b j ht := by
    refine (congrFun (STEP_main_v8_8 V) (ix3 t b j)).trans
      ((put_apply (starts (V (Proc.devRef .tc main_v8_5))) n (starts_zero n V H.ctr) rfl rfl _ _ t b j).trans ?_)
    by_cases e : t.val = n.val
    · rw [if_pos e, H.next, e]
    · rw [if_neg e]
      exact H.hs t b j (by omega)

theorem at_iterate {p : Inputs} {V : Valuation τ sig (Elt Ideal)} (H : At p 0 V) : ∀ n, n ≤ 20 → At p n (STEP^[n] V)
  | 0, _ => H
  | n + 1, h => by
    rw [Function.iterate_succ_apply']
    exact (at_iterate H n (by omega)).step (n := ⟨n, by omega⟩)

set_option maxRecDepth 16384 in
/-- The scores of a stack of hidden states. -/
theorem scores_apply (hs : FVec Ideal S20x1024x256 .f32) (w : FVec Ideal S1000x256 .f32) (v : FVec Ideal S1000 .f32) (b : Fin 1024) (t : Fin 20) (e : Fin 1000) :
    (addf (Host.dotGeneral dot_S1024x20x256_S256x1000_S1024x20x1000_2_0_01_1_n_n none
      (transpose S1024x20x256 [1, 0, 2] hs transposes_S20x1024x256_S1024x20x256_1_0_2) (transpose S256x1000 [1, 0] w transposes_S1000x256_S256x1000_1_0))
      (broadcastInDim S1024x20x1000 ![0, 1, 2] bcast_S1x1x1000_S1024x20x1000_0_1_2 (broadcastInDim S1x1x1000 ![2] bcast_S1000_S1x1x1000_2 v)) : FVec Ideal S1024x20x1000 .f32) (ix3 b t e) =
    (∑ j, hs (ix3 t b j) * w (ix2 e j)) + v (ix1 e) := by
  pointwise

/-- The scores, given the arguments of the last product. -/
theorem At.out {p : Inputs} {V : Valuation τ sig (Elt Ideal)} (H : At p 20 V) (hw : V (Proc.devRef .tc main_arg7) = p.wout)
    (hb : V (Proc.devRef .tc main_arg8) = p.bout) (b : Fin 1024) (t : Fin 20) (v : Fin 1000) :
    (out_main_v14 V : S1024x20x1000.Idx → EReal) (ix3 b t v) = p.out b t v := by
  refine (scores_apply _ _ _ b t v).trans ?_
  simp only [H.hs t b _ t.isLt, hw, hb]
  rfl

/-! ## The lookup -/

/-- A row of the table for every word: the word read signed and held within the table. -/
theorem gather_apply (tab : S1000x128.Idx → EReal) (w : IVec S1024x19x1 32) (b : Fin 1024) (q : Fin 19) (k : Fin 128) :
    Host.gather gather_S1000x128_S1024x19x1_S1024x19x128_2_0_n_n_0_2_1128 tab w (ix3 b q k) =
      tab (ix2 ⟨min (w (ix3 b q 0)).toInt.toNat 999, by omega⟩ k) := by
  let d := gather_S1000x128_S1024x19x1_S1024x19x128_2_0_n_n_0_2_1128
  refine congrArg tab (funext fun a => Fin.ext ?_)
  match a with
  | ⟨0, _⟩ =>
    have e : gather_S1000x128_S1024x19x1_S1024x19x128_2_0_n_n_0_2_1128.siIdx (ix3 b q k) ⟨0, by decide⟩ = ix3 b q 0 :=
      funext fun c => Fin.ext (match c with | ⟨0, _⟩ => rfl | ⟨1, _⟩ => rfl | ⟨2, _⟩ => rfl)
    exact congrArg (fun i => min (w i).toInt.toNat 999) e
  | ⟨1, _⟩ =>
    show d.start _ w (1 : Fin 2) + d.batchCoord _ (1 : Fin 2) + d.offCoord _ (1 : Fin 2) = k.val
    unfold GatherDims.start GatherDims.batchCoord GatherDims.offCoord
    rw [dif_neg (by decide), dif_neg (by decide), dif_pos (by decide)]
    exact Nat.zero_add k.val

/-- The words of a caption, as the lookup reads them: a negative one would be counted from the table's end. -/
def taken (cap : S1024x20.Idx → BitVec 32) : IVec S1024x19x1 32 :=
  broadcastInDim S1024x19x1 ![0, 1] bcast_S1024x19_S1024x19x1_0_1
    (select (cmpi .slt (extractStridedSlice S1024x19 ![0, 0] cap slices_S1024x20_S1024x19_0_0) (broadcastInDim S1024x19 ![] bcast_S_S1024x19 (constantI S_ 32 0#32)))
      (addi (extractStridedSlice S1024x19 ![0, 0] cap slices_S1024x20_S1024x19_0_0) (broadcastInDim S1024x19 ![] bcast_S_S1024x19 (constantI S_ 32 1000#32)))
      (extractStridedSlice S1024x19 ![0, 0] cap slices_S1024x20_S1024x19_0_0))

/-- Whether a word is within the table. -/
def within (w : IVec S1024x19x1 32) : IVec S1024x19x1 1 :=
  andi (cmpi .sge w (broadcastInDim S1024x19x1 ![] bcast_S_S1024x19x1 (constantI S_ 32 0#32)))
    (cmpi .sle w (broadcastInDim S1024x19x1 ![0, 1, 2] bcast_S1x1x1_S1024x19x1_0_1_2 (broadcastInDim S1x1x1 ![2] bcast_S1_S1x1x1_2 (constantI S1 32 999#32))))

/-- The rows looked up; the row of a word outside the table is not a number. -/
def rows (tab : FVec Ideal S1000x128 .f32) (cap : S1024x20.Idx → BitVec 32) : FVec Ideal S1024x19x128 .f32 :=
  select (broadcastInDim S1024x19x128 ![0, 1] bcast_S1024x19_S1024x19x128_0_1
      (Host.reduce IntOp.andi (within (taken cap)) (constantI S_ 1 1#1) reducesTo_S1024x19x1_S1024x19_d2 h_S_))
    (Host.gather gather_S1000x128_S1024x19x1_S1024x19x128_2_0_n_n_0_2_1128 tab (taken cap))
    (broadcastInDim S1024x19x128 ![] bcast_S_S1024x19x128 (constant S_ .f32 0x7FC00000#32))

/-- The features and the rows, position by position. -/
def stack (feat : FVec Ideal S1024x128 .f32) (r : FVec Ideal S1024x19x128 .f32) : FVec Ideal S20x1024x128 .f32 :=
  transpose S20x1024x128 [1, 0, 2] (concatenate S1024x20x128 1 [⟨S1024x1x128, broadcastInDim S1024x1x128 ![0, 2] bcast_S1024x128_S1024x1x128_0_2 feat⟩,
    ⟨S1024x19x128, r⟩] concatenates_S1024x1x128_S1024x19x128_S1024x20x128_d1) transposes_S1024x20x128_S20x1024x128_1_0_2

/-- A word of the table's range, read signed, is itself. -/
theorem word_toInt (w : BitVec 32) (h : w.toNat < 1000) : w.toInt = (w.toNat : ℤ) :=
  BitVec.toInt_eq_toNat_of_lt (by omega)

theorem not_negative (w x : BitVec 32) (h : w.toNat < 1000) : Scalar.select (IntOp.cmpi CmpIPredicate.slt w 0#32) x w = w := by
  have e : w.slt 0#32 = false := by
    simp only [BitVec.slt, word_toInt w h, BitVec.toInt_zero, decide_eq_false_iff_not]
    omega
  show Scalar.select (BitVec.ofBool (w.slt 0#32)) x w = w
  rw [e]
  rfl

theorem in_table (w : BitVec 32) (h : w.toNat < 1000) :
    IntOp.andi (IntOp.cmpi CmpIPredicate.sge w 0#32) (IntOp.cmpi CmpIPredicate.sle w 999#32) = 1#1 := by
  have e0 : (0#32).sle w = true := by
    simp only [BitVec.sle, word_toInt w h, BitVec.toInt_zero, decide_eq_true_eq]
    omega
  have e1 : w.sle 999#32 = true := by
    have e9 : (999#32).toInt = 999 := by decide
    simp only [BitVec.sle, word_toInt w h, e9, decide_eq_true_eq]
    omega
  show BitVec.ofBool ((0#32).sle w) &&& BitVec.ofBool (w.sle 999#32) = 1#1
  rw [e0, e1]
  rfl

set_option maxRecDepth 16384 in
theorem taken_apply (cap : S1024x20.Idx → BitVec 32) (b : Fin 1024) (q : Fin 19) (h : (cap (ix2 b ⟨q.val, by omega⟩)).toNat < 1000) :
    taken cap (ix3 b q 0) = cap (ix2 b ⟨q.val, by omega⟩) := by
  pointwise [taken]
  exact not_negative _ _ h

set_option maxRecDepth 16384 in
theorem within_apply (w : IVec S1024x19x1 32) (i : S1024x19x1.Idx) (h : (w i).toNat < 1000) : within w i = 1#1 := by
  idx_vars i
  pointwise [within]
  exact in_table _ h

set_option maxRecDepth 16384 in
theorem stack_apply (feat : FVec Ideal S1024x128 .f32) (r : FVec Ideal S1024x19x128 .f32) (t : Fin 20) (b : Fin 1024) (k : Fin 128) :
    stack feat r (ix3 t b k) = if h : t.val = 0 then feat (ix2 b k) else r (ix3 b ⟨t.val - 1, by omega⟩ k) := by
  pointwise [stack]
  refine dite_congr (propext ?_) (fun _ => rfl) fun _ => rfl
  omega

set_option maxRecDepth 16384 in
theorem select_apply (mask : IVec S1024x19 1) (g z : FVec Ideal S1024x19x128 .f32) (b : Fin 1024) (q : Fin 19) (k : Fin 128)
    (h : mask (ix2 b q) = 1#1) :
    select (broadcastInDim S1024x19x128 ![0, 1] bcast_S1024x19_S1024x19x128_0_1 mask) g z (ix3 b q k) = g (ix3 b q k) := by
  pointwise [h]

/-- Where every word is in the table, the lookup is the table's rows. -/
theorem rows_apply (p : Inputs) (h : ∀ j, (p.cap j).toNat < 1000) (b : Fin 1024) (q : Fin 19) (k : Fin 128) :
    rows p.tab p.cap (ix3 b q k) = p.tab (ix2 (p.word b ⟨q.val, by omega⟩) k) := by
  have ht : ∀ i, (taken p.cap i).toNat < 1000 := fun i => by
    idx_vars i
    have e : i2 = 0 := Fin.ext (by omega)
    rw [e, taken_apply _ _ _ (h _)]
    exact h _
  refine (select_apply _ _ _ b q k (Host.reduce_andi_one _ _ _ _ _ rfl fun i => within_apply _ i (ht i))).trans ?_
  refine (gather_apply _ _ _ _ _).trans (congrArg (fun w : Fin 1000 => p.tab (ix2 w k)) (Fin.ext ?_))
  show min (taken p.cap (ix3 b q 0)).toInt.toNat 999 = min (p.cap (ix2 b ⟨q.val, by omega⟩)).toNat 999
  rw [taken_apply _ _ _ (h _), word_toInt _ (h _), Int.toNat_natCast]

/-- The inputs that the loop walks are the model's. -/
theorem xs_apply (p : Inputs) (h : ∀ j, (p.cap j).toNat < 1000) (t : Fin 20) (b : Fin 1024) (k : Fin 128) :
    stack p.feat (rows p.tab p.cap) (ix3 t b k) = p.x t b k := by
  rw [stack_apply]
  unfold Inputs.x
  by_cases e : t.val = 0
  · rw [dif_pos e, if_pos e]
  · rw [dif_neg e, if_neg e, rows_apply p h]

/-! ## The whole program -/

variable (m : (ℓ : Loc nD τ sig) → Buf (Elt Ideal) ℓ)

/-- The buffers before the line that stacks the inputs. -/
abbrev before (c : Dev nD) (r : Ref sig .tc) : r.ty.Contents (Elt Ideal) :=
  upto hostOps0_2 (after hostOps0_1 (after hostOps0 (launchContents m c))) 1 (Proc.devRef .tc r)

theorem before_feat (c : Dev nD) : (before m c main_v2 : S1024x1x128.Idx → EReal) =
    broadcastInDim S1024x1x128 ![0, 2] bcast_S1024x128_S1024x1x128_0_2 (m (c.tc.loc main_arg0)) := by
  after_reads_simp

set_option maxRecDepth 16384 in
theorem before_rows (c : Dev nD) : (before m c main_v1 : S1024x19x128.Idx → EReal) =
    rows (m (c.tc.loc main_arg2)) (m (c.tc.loc main_arg1)) := by
  after_reads_simp
  simp -implicitDefEqProofs only [TRef.ofBuf_toBuf]
  simp -implicitDefEqProofs only [TRef.toBuf, TRef.ofBuf, cast_eq]
  rfl

set_option maxRecDepth 16384 in
theorem entry_xs (c : Dev nD) : (entryContents preI m c (Proc.devRef .tc main_v8_0) : S20x1024x128.Idx → EReal) =
    stack (m (c.tc.loc main_arg0)) (rows (m (c.tc.loc main_arg2)) (m (c.tc.loc main_arg1))) := by
  simp only [entryContents, afterL_cons, afterL_nil]
  after_reads_simp
  exact congrArg₂ (fun (a : FVec Ideal S1024x1x128 .f32) (r : FVec Ideal S1024x19x128 .f32) =>
    transpose S20x1024x128 [1, 0, 2] (concatenate S1024x20x128 1 [⟨S1024x1x128, a⟩, ⟨S1024x19x128, r⟩]
      concatenates_S1024x1x128_S1024x19x128_S1024x20x128_d1) transposes_S1024x20x128_S20x1024x128_1_0_2) (before_feat m c) (before_rows m c)

/-- The nine arguments that the program is run on. -/
abbrev argsOf (c : Dev nD) : Inputs where
  feat := m (c.tc.loc main_arg0)
  cap := m (c.tc.loc main_arg1)
  tab := m (c.tc.loc main_arg2)
  wih := m (c.tc.loc main_arg3)
  whh := m (c.tc.loc main_arg4)
  bih := m (c.tc.loc main_arg5)
  bhh := m (c.tc.loc main_arg6)
  wout := m (c.tc.loc main_arg7)
  bout := m (c.tc.loc main_arg8)

set_option maxRecDepth 16384 in
theorem zero_apply (b : Fin 1024) (j : Fin 256) :
    (broadcastInDim S1024x256 ![] bcast_S_S1024x256 (constant S_ .f32 0x00000000#32) : FVec Ideal S1024x256 .f32) (ix2 b j) = (0 : EReal) := by
  pointwise

theorem entry_wih (c : Dev nD) : entryContents preI m c (Proc.devRef .tc main_v8_1) = m (c.tc.loc main_arg3) := by
  simp only [entryContents, afterL_cons, afterL_nil]
  after_reads_simp
  rfl
theorem entry_whh (c : Dev nD) : entryContents preI m c (Proc.devRef .tc main_v8_2) = m (c.tc.loc main_arg4) := by
  simp only [entryContents, afterL_cons, afterL_nil]
  after_reads_simp
  rfl
theorem entry_bih (c : Dev nD) : entryContents preI m c (Proc.devRef .tc main_v8_3) = m (c.tc.loc main_arg5) := by
  simp only [entryContents, afterL_cons, afterL_nil]
  after_reads_simp
  rfl
theorem entry_bhh (c : Dev nD) : entryContents preI m c (Proc.devRef .tc main_v8_4) = m (c.tc.loc main_arg6) := by
  simp only [entryContents, afterL_cons, afterL_nil]
  after_reads_simp
  rfl
theorem entry_h (c : Dev nD) : (entryContents preI m c (Proc.devRef .tc main_v8_6) : S1024x256.Idx → EReal) =
    broadcastInDim S1024x256 ![] bcast_S_S1024x256 (constant (F := Ideal) S_ .f32 0x00000000#32) := by
  simp only [entryContents, afterL_cons, afterL_nil]
  after_reads_simp
  rfl
theorem entry_c (c : Dev nD) : (entryContents preI m c (Proc.devRef .tc main_v8_7) : S1024x256.Idx → EReal) =
    broadcastInDim S1024x256 ![] bcast_S_S1024x256 (constant (F := Ideal) S_ .f32 0x00000000#32) := by
  simp only [entryContents, afterL_cons, afterL_nil]
  after_reads_simp
  rfl

/-- What the loop starts from. -/
theorem at_entry (c : Dev nD) (h : ∀ j, ((argsOf m c).cap j).toNat < 1000) : At (argsOf m c) 0 (entryContents preI m c) where
  xs t b k := (congrFun (entry_xs m c) (ix3 t b k)).trans (xs_apply (argsOf m c) h t b k)
  wih := entry_wih m c
  whh := entry_whh m c
  bih := entry_bih m c
  bhh := entry_bhh m c
  ctr := ctr_entry m c
  h b j := (congrFun (entry_h m c) (ix2 b j)).trans (zero_apply b j)
  c b j := (congrFun (entry_c m c) (ix2 b j)).trans (zero_apply b j)
  hs t b j ht := absurd ht (Nat.not_lt_zero _)

/-- The reference's result is the model's, where every word is in the table. -/
theorem final_eq (c : Dev nD) (h : ∀ j, ((argsOf m c).cap j).toNat < 1000) :
    (out_main_v14 (STEP^[20] (entryContents preI m c)) : S1024x20x1000.Idx → EReal) = fun j => (argsOf m c).out (j 0) (j 1) (j 2) := by
  funext j
  idx_vars j
  exact (at_iterate (at_entry m c h) 20 le_rfl).out (iter_main_arg7 m c 20) (iter_main_arg8 m c 20) _ _ _

end Cert.Proof.RefValue
-- ==== Proof.Equation.lean ====
/-
  The value claim: over the extended reals the kernel and the reference leave the same scores.

  Each program's result is `Inputs.out` of its own arguments (`KernelValue.final_eq`, `RefValue.final_eq`); the claim's two
  memories agree on the arguments, so the two models are one.
-/
module

public import proofs.«01_k».proof.Proof.Frames
public import proofs.«01_k».proof.Proof.KernelValue
public import proofs.«01_k».proof.Proof.RefValue

@[expose] public section

noncomputable section

namespace Cert.Proof.Equation

open Idealize.ShloMosaic Idealize.SL.Sem
open Cert.Proof.Model

/-- A memory that holds the inputs `p` in the nine arguments has them as its inputs. -/
theorem args_eq (m' : (ℓ : Loc Cert.ReferenceIdeal.nD Cert.ReferenceIdeal.τ Cert.ReferenceIdeal.sig) → Buf (Elt Ideal) ℓ) (c : Dev Cert.ReferenceIdeal.nD)
    (p : Inputs) (h : m' (c.tc.loc Cert.ReferenceIdeal.main_arg0) = p.feat ∧ m' (c.tc.loc Cert.ReferenceIdeal.main_arg1) = p.cap
      ∧ m' (c.tc.loc Cert.ReferenceIdeal.main_arg2) = p.tab ∧ m' (c.tc.loc Cert.ReferenceIdeal.main_arg3) = p.wih
      ∧ m' (c.tc.loc Cert.ReferenceIdeal.main_arg4) = p.whh ∧ m' (c.tc.loc Cert.ReferenceIdeal.main_arg5) = p.bih
      ∧ m' (c.tc.loc Cert.ReferenceIdeal.main_arg6) = p.bhh ∧ m' (c.tc.loc Cert.ReferenceIdeal.main_arg7) = p.wout
      ∧ m' (c.tc.loc Cert.ReferenceIdeal.main_arg8) = p.bout) : RefValue.argsOf m' c = p := by
  obtain ⟨h0, h1, h2, h3, h4, h5, h6, h7, h8⟩ := h
  show Inputs.mk _ _ _ _ _ _ _ _ _ = p
  rw [h0, h1, h2, h3, h4, h5, h6, h7, h8]

/-- From memories that agree on the arguments, every caption word in the vocabulary, both programs leave the same scores. -/
theorem algebraic : Cert.algebraic_KernelIdeal_ReferenceIdeal := fun m ρ m' ρ' hpre hag => by
  have hw : ∀ d j, ((KernelValue.argsOf m d).cap j).toNat < 1000 := fun d j => Frames.words_lt _ _ _ _ _ _ _ _ _ (hpre d) j
  refine ⟨fun c => Main.final m c (Proc.devRef .tc Cert.KernelIdeal.main_v9), ?_, ?_⟩
  · exact (θ_run _ _ _).mono (fun r h => h.1) (Main.run_main m ρ hw)
  · refine (θ_run _ _ _).mono (fun r h c => ⟨?_, (h c).2⟩) (Cert.ReferenceIdeal.Value.run (F := Ideal) m' ρ')
    have e : RefValue.argsOf m' c = KernelValue.argsOf m c := args_eq m' c _ (hag c)
    refine (h c).1.trans ((RefValue.final_eq m' c (e ▸ hw c)).trans ?_)
    rw [e]
    exact (KernelValue.final_eq m c).symm

end Cert.Proof.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_vocabulary
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_vocabulary.Gen.facts,
  Frames.frame_kernel, Frames.frame_ideal, Frames.frame_reference, fun m ρ _ => Frames.frame_reference m ρ trivial, trivial,
  Equation.algebraic⟩

end Cert.Proof

end
